-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_MixS (m : (ℓ : Loc Cert.MixS.nD Cert.MixS.τ Cert.MixS.sig) → Buf (Elt Bits) ℓ) : Prop :=
  True

def Pre_MixSIdeal (m : (ℓ : Loc Cert.MixSIdeal.nD Cert.MixSIdeal.τ Cert.MixSIdeal.sig) → Buf (Elt Ideal) ℓ) : Prop :=
  True

def Pre_MixSRefIdeal (m : (ℓ : Loc Cert.MixSRefIdeal.nD Cert.MixSRefIdeal.τ Cert.MixSRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_MixS [hMixS : Cert.MixS.Facts] : Prop :=
  ∀ (m : (ℓ : Loc Cert.MixS.nD Cert.MixS.τ Cert.MixS.sig) → Buf (Elt Bits) ℓ) (g : Dev Cert.MixS.nD → PrngReg), Pre_MixS m →
    θ_run (Cert.MixS.defs (F := Bits)) (onTc (τ := Cert.MixS.τ) (Cert.MixS.main (F := Bits))) ⟨m, fun _ => 0, g⟩ (fun r => (∀ c : Dev Cert.MixS.nD,
      r.2.mem ((c.tc : Thread Cert.MixS.nD Cert.MixS.τ).loc Cert.MixS.main_arg0) = m ((c.tc : Thread Cert.MixS.nD Cert.MixS.τ).loc Cert.MixS.main_arg0)
      ∧ r.2.mem ((c.tc : Thread Cert.MixS.nD Cert.MixS.τ).loc Cert.MixS.main_arg1) = m ((c.tc : Thread Cert.MixS.nD Cert.MixS.τ).loc Cert.MixS.main_arg1)
      ∧ r.2.mem ((c.tc : Thread Cert.MixS.nD Cert.MixS.τ).loc Cert.MixS.main_arg2) = m ((c.tc : Thread Cert.MixS.nD Cert.MixS.τ).loc Cert.MixS.main_arg2)
      ∧ r.2.mem ((c.tc : Thread Cert.MixS.nD Cert.MixS.τ).loc Cert.MixS.main_arg3) = m ((c.tc : Thread Cert.MixS.nD Cert.MixS.τ).loc Cert.MixS.main_arg3)
      ∧ r.2.mem ((c.tc : Thread Cert.MixS.nD Cert.MixS.τ).loc Cert.MixS.main_arg4) = m ((c.tc : Thread Cert.MixS.nD Cert.MixS.τ).loc Cert.MixS.main_arg4)
      ∧ r.2.mem ((c.tc : Thread Cert.MixS.nD Cert.MixS.τ).loc Cert.MixS.main_arg5) = m ((c.tc : Thread Cert.MixS.nD Cert.MixS.τ).loc Cert.MixS.main_arg5)
      ∧ r.2.mem ((c.tc : Thread Cert.MixS.nD Cert.MixS.τ).loc Cert.MixS.main_arg6) = m ((c.tc : Thread Cert.MixS.nD Cert.MixS.τ).loc Cert.MixS.main_arg6)
      ∧ r.2.mem ((c.tc : Thread Cert.MixS.nD Cert.MixS.τ).loc Cert.MixS.main_arg7) = m ((c.tc : Thread Cert.MixS.nD Cert.MixS.τ).loc Cert.MixS.main_arg7)
      ∧ r.2.mem ((c.tc : Thread Cert.MixS.nD Cert.MixS.τ).loc Cert.MixS.main_arg8) = m ((c.tc : Thread Cert.MixS.nD Cert.MixS.τ).loc Cert.MixS.main_arg8)
      ∧ r.2.mem ((c.tc : Thread Cert.MixS.nD Cert.MixS.τ).loc Cert.MixS.main_arg9) = m ((c.tc : Thread Cert.MixS.nD Cert.MixS.τ).loc Cert.MixS.main_arg9)
      ∧ r.2.mem ((c.tc : Thread Cert.MixS.nD Cert.MixS.τ).loc Cert.MixS.main_arg10) = m ((c.tc : Thread Cert.MixS.nD Cert.MixS.τ).loc Cert.MixS.main_arg10)
      ∧ r.2.mem ((c.tc : Thread Cert.MixS.nD Cert.MixS.τ).loc Cert.MixS.main_arg11) = m ((c.tc : Thread Cert.MixS.nD Cert.MixS.τ).loc Cert.MixS.main_arg11)
      ∧ r.2.mem ((c.tc : Thread Cert.MixS.nD Cert.MixS.τ).loc Cert.MixS.main_arg12) = m ((c.tc : Thread Cert.MixS.nD Cert.MixS.τ).loc Cert.MixS.main_arg12)
      ∧ r.2.mem ((c.tc : Thread Cert.MixS.nD Cert.MixS.τ).loc Cert.MixS.main_arg13) = m ((c.tc : Thread Cert.MixS.nD Cert.MixS.τ).loc Cert.MixS.main_arg13)
      ∧ r.2.mem ((c.tc : Thread Cert.MixS.nD Cert.MixS.τ).loc Cert.MixS.main_arg14) = m ((c.tc : Thread Cert.MixS.nD Cert.MixS.τ).loc Cert.MixS.main_arg14)
      ∧ r.2.mem ((c.tc : Thread Cert.MixS.nD Cert.MixS.τ).loc Cert.MixS.main_arg15) = m ((c.tc : Thread Cert.MixS.nD Cert.MixS.τ).loc Cert.MixS.main_arg15)
      ∧ r.2.mem ((c.tc : Thread Cert.MixS.nD Cert.MixS.τ).loc Cert.MixS.main_arg16) = m ((c.tc : Thread Cert.MixS.nD Cert.MixS.τ).loc Cert.MixS.main_arg16)
      ∧ r.2.mem ((c.tc : Thread Cert.MixS.nD Cert.MixS.τ).loc Cert.MixS.main_arg17) = m ((c.tc : Thread Cert.MixS.nD Cert.MixS.τ).loc Cert.MixS.main_arg17)
      ∧ r.2.mem ((c.tc : Thread Cert.MixS.nD Cert.MixS.τ).loc Cert.MixS.main_arg18) = m ((c.tc : Thread Cert.MixS.nD Cert.MixS.τ).loc Cert.MixS.main_arg18)
      ∧ r.2.mem ((c.tc : Thread Cert.MixS.nD Cert.MixS.τ).loc Cert.MixS.main_arg19) = m ((c.tc : Thread Cert.MixS.nD Cert.MixS.τ).loc Cert.MixS.main_arg19))
      ∧ r.2.sem = fun _ => 0)

def quiescent_MixSIdeal [hMixSIdeal : Cert.MixSIdeal.Facts] : Prop :=
  ∀ (m : (ℓ : Loc Cert.MixSIdeal.nD Cert.MixSIdeal.τ Cert.MixSIdeal.sig) → Buf (Elt Ideal) ℓ) (g : Dev Cert.MixSIdeal.nD → PrngReg), Pre_MixSIdeal m →
    θ_run (Cert.MixSIdeal.defs (F := Ideal)) (onTc (τ := Cert.MixSIdeal.τ) (Cert.MixSIdeal.main (F := Ideal))) ⟨m, fun _ => 0, g⟩ (fun r => (∀ c : Dev Cert.MixSIdeal.nD,
      r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
      ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
      ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2)
      ∧ r.2.mem ((c.tc : Thread Cert.MixSIdeal.nD Cert.MixSIdeal.τ).loc Cert.MixSIdeal.main_arg3) = m ((c.tc : Thread Cert.MixSIdeal.nD Cert.MixSIdeal.τ).loc Cert.MixSIdeal.main_arg3)
      ∧ r.2.mem ((c.tc : Thread Cert.MixSIdeal.nD Cert.MixSIdeal.τ).loc Cert.MixSIdeal.main_arg4) = m ((c.tc : Thread Cert.MixSIdeal.nD Cert.MixSIdeal.τ).loc Cert.MixSIdeal.main_arg4)
      ∧ r.2.mem ((c.tc : Thread Cert.MixSIdeal.nD Cert.MixSIdeal.τ).loc Cert.MixSIdeal.main_arg5) = m ((c.tc : Thread Cert.MixSIdeal.nD Cert.MixSIdeal.τ).loc Cert.MixSIdeal.main_arg5)
      ∧ r.2.mem ((c.tc : Thread Cert.MixSIdeal.nD Cert.MixSIdeal.τ).loc Cert.MixSIdeal.main_arg6) = m ((c.tc : Thread Cert.MixSIdeal.nD Cert.MixSIdeal.τ).loc Cert.MixSIdeal.main_arg6)
      ∧ r.2.mem ((c.tc : Thread Cert.MixSIdeal.nD Cert.MixSIdeal.τ).loc Cert.MixSIdeal.main_arg7) = m ((c.tc : Thread Cert.MixSIdeal.nD Cert.MixSIdeal.τ).loc Cert.MixSIdeal.main_arg7)
      ∧ r.2.mem ((c.tc : Thread Cert.MixSIdeal.nD Cert.MixSIdeal.τ).loc Cert.MixSIdeal.main_arg8) = m ((c.tc : Thread Cert.MixSIdeal.nD Cert.MixSIdeal.τ).loc Cert.MixSIdeal.main_arg8)
      ∧ r.2.mem ((c.tc : Thread Cert.MixSIdeal.nD Cert.MixSIdeal.τ).loc Cert.MixSIdeal.main_arg9) = m ((c.tc : Thread Cert.MixSIdeal.nD Cert.MixSIdeal.τ).loc Cert.MixSIdeal.main_arg9)
      ∧ r.2.mem ((c.tc : Thread Cert.MixSIdeal.nD Cert.MixSIdeal.τ).loc Cert.MixSIdeal.main_arg10) = m ((c.tc : Thread Cert.MixSIdeal.nD Cert.MixSIdeal.τ).loc Cert.MixSIdeal.main_arg10)
      ∧ r.2.mem ((c.tc : Thread Cert.MixSIdeal.nD Cert.MixSIdeal.τ).loc Cert.MixSIdeal.main_arg11) = m ((c.tc : Thread Cert.MixSIdeal.nD Cert.MixSIdeal.τ).loc Cert.MixSIdeal.main_arg11)
      ∧ r.2.mem ((c.tc : Thread Cert.MixSIdeal.nD Cert.MixSIdeal.τ).loc Cert.MixSIdeal.main_arg12) = m ((c.tc : Thread Cert.MixSIdeal.nD Cert.MixSIdeal.τ).loc Cert.MixSIdeal.main_arg12)
      ∧ r.2.mem ((c.tc : Thread Cert.MixSIdeal.nD Cert.MixSIdeal.τ).loc Cert.MixSIdeal.main_arg13) = m ((c.tc : Thread Cert.MixSIdeal.nD Cert.MixSIdeal.τ).loc Cert.MixSIdeal.main_arg13)
      ∧ r.2.mem ((c.tc : Thread Cert.MixSIdeal.nD Cert.MixSIdeal.τ).loc Cert.MixSIdeal.main_arg14) = m ((c.tc : Thread Cert.MixSIdeal.nD Cert.MixSIdeal.τ).loc Cert.MixSIdeal.main_arg14)
      ∧ r.2.mem ((c.tc : Thread Cert.MixSIdeal.nD Cert.MixSIdeal.τ).loc Cert.MixSIdeal.main_arg15) = m ((c.tc : Thread Cert.MixSIdeal.nD Cert.MixSIdeal.τ).loc Cert.MixSIdeal.main_arg15)
      ∧ r.2.mem ((c.tc : Thread Cert.MixSIdeal.nD Cert.MixSIdeal.τ).loc Cert.MixSIdeal.main_arg16) = m ((c.tc : Thread Cert.MixSIdeal.nD Cert.MixSIdeal.τ).loc Cert.MixSIdeal.main_arg16)
      ∧ r.2.mem ((c.tc : Thread Cert.MixSIdeal.nD Cert.MixSIdeal.τ).loc Cert.MixSIdeal.main_arg17) = m ((c.tc : Thread Cert.MixSIdeal.nD Cert.MixSIdeal.τ).loc Cert.MixSIdeal.main_arg17)
      ∧ r.2.mem ((c.tc : Thread Cert.MixSIdeal.nD Cert.MixSIdeal.τ).loc Cert.MixSIdeal.main_arg18) = m ((c.tc : Thread Cert.MixSIdeal.nD Cert.MixSIdeal.τ).loc Cert.MixSIdeal.main_arg18)
      ∧ r.2.mem ((c.tc : Thread Cert.MixSIdeal.nD Cert.MixSIdeal.τ).loc Cert.MixSIdeal.main_arg19) = m ((c.tc : Thread Cert.MixSIdeal.nD Cert.MixSIdeal.τ).loc Cert.MixSIdeal.main_arg19))
      ∧ r.2.sem = fun _ => 0)

def quiescent_MixSRefIdeal [hMixSRefIdeal : Cert.MixSRefIdeal.Facts] : Prop :=
  ∀ (m : (ℓ : Loc Cert.MixSRefIdeal.nD Cert.MixSRefIdeal.τ Cert.MixSRefIdeal.sig) → Buf (Elt Ideal) ℓ) (g : Dev Cert.MixSRefIdeal.nD → PrngReg), Pre_MixSRefIdeal m →
    θ_run (Cert.MixSRefIdeal.defs (F := Ideal)) (onTc (τ := Cert.MixSRefIdeal.τ) (Cert.MixSRefIdeal.main (F := Ideal))) ⟨m, fun _ => 0, g⟩ (fun r => (∀ c : Dev Cert.MixSRefIdeal.nD,
      r.2.mem ((c.tc : Thread Cert.MixSRefIdeal.nD Cert.MixSRefIdeal.τ).loc Cert.MixSRefIdeal.main_arg0) = m ((c.tc : Thread Cert.MixSRefIdeal.nD Cert.MixSRefIdeal.τ).loc Cert.MixSRefIdeal.main_arg0)
      ∧ r.2.mem ((c.tc : Thread Cert.MixSRefIdeal.nD Cert.MixSRefIdeal.τ).loc Cert.MixSRefIdeal.main_arg1) = m ((c.tc : Thread Cert.MixSRefIdeal.nD Cert.MixSRefIdeal.τ).loc Cert.MixSRefIdeal.main_arg1)
      ∧ r.2.mem ((c.tc : Thread Cert.MixSRefIdeal.nD Cert.MixSRefIdeal.τ).loc Cert.MixSRefIdeal.main_arg2) = m ((c.tc : Thread Cert.MixSRefIdeal.nD Cert.MixSRefIdeal.τ).loc Cert.MixSRefIdeal.main_arg2)
      ∧ r.2.mem ((c.tc : Thread Cert.MixSRefIdeal.nD Cert.MixSRefIdeal.τ).loc Cert.MixSRefIdeal.main_arg3) = m ((c.tc : Thread Cert.MixSRefIdeal.nD Cert.MixSRefIdeal.τ).loc Cert.MixSRefIdeal.main_arg3)
      ∧ r.2.mem ((c.tc : Thread Cert.MixSRefIdeal.nD Cert.MixSRefIdeal.τ).loc Cert.MixSRefIdeal.main_arg4) = m ((c.tc : Thread Cert.MixSRefIdeal.nD Cert.MixSRefIdeal.τ).loc Cert.MixSRefIdeal.main_arg4)
      ∧ r.2.mem ((c.tc : Thread Cert.MixSRefIdeal.nD Cert.MixSRefIdeal.τ).loc Cert.MixSRefIdeal.main_arg5) = m ((c.tc : Thread Cert.MixSRefIdeal.nD Cert.MixSRefIdeal.τ).loc Cert.MixSRefIdeal.main_arg5)
      ∧ r.2.mem ((c.tc : Thread Cert.MixSRefIdeal.nD Cert.MixSRefIdeal.τ).loc Cert.MixSRefIdeal.main_arg6) = m ((c.tc : Thread Cert.MixSRefIdeal.nD Cert.MixSRefIdeal.τ).loc Cert.MixSRefIdeal.main_arg6)
      ∧ r.2.mem ((c.tc : Thread Cert.MixSRefIdeal.nD Cert.MixSRefIdeal.τ).loc Cert.MixSRefIdeal.main_arg7) = m ((c.tc : Thread Cert.MixSRefIdeal.nD Cert.MixSRefIdeal.τ).loc Cert.MixSRefIdeal.main_arg7)
      ∧ r.2.mem ((c.tc : Thread Cert.MixSRefIdeal.nD Cert.MixSRefIdeal.τ).loc Cert.MixSRefIdeal.main_arg8) = m ((c.tc : Thread Cert.MixSRefIdeal.nD Cert.MixSRefIdeal.τ).loc Cert.MixSRefIdeal.main_arg8)
      ∧ r.2.mem ((c.tc : Thread Cert.MixSRefIdeal.nD Cert.MixSRefIdeal.τ).loc Cert.MixSRefIdeal.main_arg9) = m ((c.tc : Thread Cert.MixSRefIdeal.nD Cert.MixSRefIdeal.τ).loc Cert.MixSRefIdeal.main_arg9)
      ∧ r.2.mem ((c.tc : Thread Cert.MixSRefIdeal.nD Cert.MixSRefIdeal.τ).loc Cert.MixSRefIdeal.main_arg10) = m ((c.tc : Thread Cert.MixSRefIdeal.nD Cert.MixSRefIdeal.τ).loc Cert.MixSRefIdeal.main_arg10)
      ∧ r.2.mem ((c.tc : Thread Cert.MixSRefIdeal.nD Cert.MixSRefIdeal.τ).loc Cert.MixSRefIdeal.main_arg11) = m ((c.tc : Thread Cert.MixSRefIdeal.nD Cert.MixSRefIdeal.τ).loc Cert.MixSRefIdeal.main_arg11)
      ∧ r.2.mem ((c.tc : Thread Cert.MixSRefIdeal.nD Cert.MixSRefIdeal.τ).loc Cert.MixSRefIdeal.main_arg12) = m ((c.tc : Thread Cert.MixSRefIdeal.nD Cert.MixSRefIdeal.τ).loc Cert.MixSRefIdeal.main_arg12)
      ∧ r.2.mem ((c.tc : Thread Cert.MixSRefIdeal.nD Cert.MixSRefIdeal.τ).loc Cert.MixSRefIdeal.main_arg13) = m ((c.tc : Thread Cert.MixSRefIdeal.nD Cert.MixSRefIdeal.τ).loc Cert.MixSRefIdeal.main_arg13)
      ∧ r.2.mem ((c.tc : Thread Cert.MixSRefIdeal.nD Cert.MixSRefIdeal.τ).loc Cert.MixSRefIdeal.main_arg14) = m ((c.tc : Thread Cert.MixSRefIdeal.nD Cert.MixSRefIdeal.τ).loc Cert.MixSRefIdeal.main_arg14)
      ∧ r.2.mem ((c.tc : Thread Cert.MixSRefIdeal.nD Cert.MixSRefIdeal.τ).loc Cert.MixSRefIdeal.main_arg15) = m ((c.tc : Thread Cert.MixSRefIdeal.nD Cert.MixSRefIdeal.τ).loc Cert.MixSRefIdeal.main_arg15)
      ∧ r.2.mem ((c.tc : Thread Cert.MixSRefIdeal.nD Cert.MixSRefIdeal.τ).loc Cert.MixSRefIdeal.main_arg16) = m ((c.tc : Thread Cert.MixSRefIdeal.nD Cert.MixSRefIdeal.τ).loc Cert.MixSRefIdeal.main_arg16)
      ∧ r.2.mem ((c.tc : Thread Cert.MixSRefIdeal.nD Cert.MixSRefIdeal.τ).loc Cert.MixSRefIdeal.main_arg17) = m ((c.tc : Thread Cert.MixSRefIdeal.nD Cert.MixSRefIdeal.τ).loc Cert.MixSRefIdeal.main_arg17)
      ∧ r.2.mem ((c.tc : Thread Cert.MixSRefIdeal.nD Cert.MixSRefIdeal.τ).loc Cert.MixSRefIdeal.main_arg18) = m ((c.tc : Thread Cert.MixSRefIdeal.nD Cert.MixSRefIdeal.τ).loc Cert.MixSRefIdeal.main_arg18)
      ∧ r.2.mem ((c.tc : Thread Cert.MixSRefIdeal.nD Cert.MixSRefIdeal.τ).loc Cert.MixSRefIdeal.main_arg19) = m ((c.tc : Thread Cert.MixSRefIdeal.nD Cert.MixSRefIdeal.τ).loc Cert.MixSRefIdeal.main_arg19))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v11)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v11) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v39) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v37_0)) (v1 : (c : Dev Cert.InIdeal.nD) → Buf (Elt Ideal) ((c.tc : Thread Cert.InIdeal.nD Cert.InIdeal.τ).loc Cert.InIdeal.main_v37_1)) (v2 : (c : Dev Cert.InIdeal.nD) → Buf (Elt Ideal) ((c.tc : Thread Cert.InIdeal.nD Cert.InIdeal.τ).loc Cert.InIdeal.main_v37_2)) (v3 : (c : Dev Cert.InIdeal.nD) → Buf (Elt Ideal) ((c.tc : Thread Cert.InIdeal.nD Cert.InIdeal.τ).loc Cert.InIdeal.main_v37_3)) (v4 : (c : Dev Cert.InIdeal.nD) → Buf (Elt Ideal) ((c.tc : Thread Cert.InIdeal.nD Cert.InIdeal.τ).loc Cert.InIdeal.main_v37_4)) (v5 : (c : Dev Cert.InIdeal.nD) → Buf (Elt Ideal) ((c.tc : Thread Cert.InIdeal.nD Cert.InIdeal.τ).loc Cert.InIdeal.main_v37_5)) (v6 : (c : Dev Cert.InIdeal.nD) → Buf (Elt Ideal) ((c.tc : Thread Cert.InIdeal.nD Cert.InIdeal.τ).loc Cert.InIdeal.main_v37_6)) (v7 : (c : Dev Cert.InIdeal.nD) → Buf (Elt Ideal) ((c.tc : Thread Cert.InIdeal.nD Cert.InIdeal.τ).loc Cert.InIdeal.main_v37_7)) (v8 : (c : Dev Cert.InIdeal.nD) → Buf (Elt Ideal) ((c.tc : Thread Cert.InIdeal.nD Cert.InIdeal.τ).loc Cert.InIdeal.main_v37_8)) (v9 : (c : Dev Cert.InIdeal.nD) → Buf (Elt Ideal) ((c.tc : Thread Cert.InIdeal.nD Cert.InIdeal.τ).loc Cert.InIdeal.main_v37_9)) (v10 : (c : Dev Cert.InIdeal.nD) → Buf (Elt Ideal) ((c.tc : Thread Cert.InIdeal.nD Cert.InIdeal.τ).loc Cert.InIdeal.main_v37_10)) (v11 : (c : Dev Cert.InIdeal.nD) → Buf (Elt Ideal) ((c.tc : Thread Cert.InIdeal.nD Cert.InIdeal.τ).loc Cert.InIdeal.main_v37_11)) (v12 : (c : Dev Cert.InIdeal.nD) → Buf (Elt Ideal) ((c.tc : Thread Cert.InIdeal.nD Cert.InIdeal.τ).loc Cert.InIdeal.main_v37_12)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v37_0) = v0 c
          ∧ r.2.mem ((c.tc : Thread Cert.InIdeal.nD Cert.InIdeal.τ).loc Cert.InIdeal.main_v37_1) = v1 c
          ∧ r.2.mem ((c.tc : Thread Cert.InIdeal.nD Cert.InIdeal.τ).loc Cert.InIdeal.main_v37_2) = v2 c
          ∧ r.2.mem ((c.tc : Thread Cert.InIdeal.nD Cert.InIdeal.τ).loc Cert.InIdeal.main_v37_3) = v3 c
          ∧ r.2.mem ((c.tc : Thread Cert.InIdeal.nD Cert.InIdeal.τ).loc Cert.InIdeal.main_v37_4) = v4 c
          ∧ r.2.mem ((c.tc : Thread Cert.InIdeal.nD Cert.InIdeal.τ).loc Cert.InIdeal.main_v37_5) = v5 c
          ∧ r.2.mem ((c.tc : Thread Cert.InIdeal.nD Cert.InIdeal.τ).loc Cert.InIdeal.main_v37_6) = v6 c
          ∧ r.2.mem ((c.tc : Thread Cert.InIdeal.nD Cert.InIdeal.τ).loc Cert.InIdeal.main_v37_7) = v7 c
          ∧ r.2.mem ((c.tc : Thread Cert.InIdeal.nD Cert.InIdeal.τ).loc Cert.InIdeal.main_v37_8) = v8 c
          ∧ r.2.mem ((c.tc : Thread Cert.InIdeal.nD Cert.InIdeal.τ).loc Cert.InIdeal.main_v37_9) = v9 c
          ∧ r.2.mem ((c.tc : Thread Cert.InIdeal.nD Cert.InIdeal.τ).loc Cert.InIdeal.main_v37_10) = v10 c
          ∧ r.2.mem ((c.tc : Thread Cert.InIdeal.nD Cert.InIdeal.τ).loc Cert.InIdeal.main_v37_11) = v11 c
          ∧ r.2.mem ((c.tc : Thread Cert.InIdeal.nD Cert.InIdeal.τ).loc Cert.InIdeal.main_v37_12) = v12 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v121) = v0 c
          ∧ r.2.mem ((c.tc : Thread Cert.InRefIdeal.nD Cert.InRefIdeal.τ).loc Cert.InRefIdeal.main_v125) = v1 c
          ∧ r.2.mem ((c.tc : Thread Cert.InRefIdeal.nD Cert.InRefIdeal.τ).loc Cert.InRefIdeal.main_v129) = v2 c
          ∧ r.2.mem ((c.tc : Thread Cert.InRefIdeal.nD Cert.InRefIdeal.τ).loc Cert.InRefIdeal.main_v130) = v3 c
          ∧ r.2.mem ((c.tc : Thread Cert.InRefIdeal.nD Cert.InRefIdeal.τ).loc Cert.InRefIdeal.main_v133) = v4 c
          ∧ r.2.mem ((c.tc : Thread Cert.InRefIdeal.nD Cert.InRefIdeal.τ).loc Cert.InRefIdeal.main_v136) = v5 c
          ∧ r.2.mem ((c.tc : Thread Cert.InRefIdeal.nD Cert.InRefIdeal.τ).loc Cert.InRefIdeal.main_v139) = v6 c
          ∧ r.2.mem ((c.tc : Thread Cert.InRefIdeal.nD Cert.InRefIdeal.τ).loc Cert.InRefIdeal.main_v140) = v7 c
          ∧ r.2.mem ((c.tc : Thread Cert.InRefIdeal.nD Cert.InRefIdeal.τ).loc Cert.InRefIdeal.main_v142) = v8 c
          ∧ r.2.mem ((c.tc : Thread Cert.InRefIdeal.nD Cert.InRefIdeal.τ).loc Cert.InRefIdeal.main_v143) = v9 c
          ∧ r.2.mem ((c.tc : Thread Cert.InRefIdeal.nD Cert.InRefIdeal.τ).loc Cert.InRefIdeal.main_v145) = v10 c
          ∧ r.2.mem ((c.tc : Thread Cert.InRefIdeal.nD Cert.InRefIdeal.τ).loc Cert.InRefIdeal.main_v147) = v11 c
          ∧ r.2.mem ((c.tc : Thread Cert.InRefIdeal.nD Cert.InRefIdeal.τ).loc Cert.InRefIdeal.main_v149) = v12 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_MixS_MixSIdeal : Prop :=
  IdealRules.named_const.Statement Cert.MixSIdeal.κ "eight_root_cubic" .f32 0x3E922279#32 ((8 * ((6693141 / 8388608) * (12003091 / 268435456)) : ℝ) : EReal)

def algebraic_MixSIdeal_MixSRefIdeal [hMixSIdeal : Cert.MixSIdeal.Facts] [hMixSRefIdeal : Cert.MixSRefIdeal.Facts] : Prop :=
  ∀ (m : (ℓ : Loc Cert.MixSIdeal.nD Cert.MixSIdeal.τ Cert.MixSIdeal.sig) → Buf (Elt Ideal) ℓ) (g : Dev Cert.MixSIdeal.nD → PrngReg)
    (m' : (ℓ : Loc Cert.MixSRefIdeal.nD Cert.MixSRefIdeal.τ Cert.MixSRefIdeal.sig) → Buf (Elt Ideal) ℓ) (g' : Dev Cert.MixSRefIdeal.nD → PrngReg), Pre_MixSIdeal m →
    (∀ c : Dev Cert.MixSIdeal.nD,
      m' ((c.tc : Thread Cert.MixSRefIdeal.nD Cert.MixSRefIdeal.τ).loc Cert.MixSRefIdeal.main_arg0) = m ((c.tc : Thread Cert.MixSIdeal.nD Cert.MixSIdeal.τ).loc Cert.MixSIdeal.main_arg0)
      ∧ m' ((c.tc : Thread Cert.MixSRefIdeal.nD Cert.MixSRefIdeal.τ).loc Cert.MixSRefIdeal.main_arg1) = m ((c.tc : Thread Cert.MixSIdeal.nD Cert.MixSIdeal.τ).loc Cert.MixSIdeal.main_arg1)
      ∧ m' ((c.tc : Thread Cert.MixSRefIdeal.nD Cert.MixSRefIdeal.τ).loc Cert.MixSRefIdeal.main_arg2) = m ((c.tc : Thread Cert.MixSIdeal.nD Cert.MixSIdeal.τ).loc Cert.MixSIdeal.main_arg2)
      ∧ m' ((c.tc : Thread Cert.MixSRefIdeal.nD Cert.MixSRefIdeal.τ).loc Cert.MixSRefIdeal.main_arg3) = m ((c.tc : Thread Cert.MixSIdeal.nD Cert.MixSIdeal.τ).loc Cert.MixSIdeal.main_arg3)
      ∧ m' ((c.tc : Thread Cert.MixSRefIdeal.nD Cert.MixSRefIdeal.τ).loc Cert.MixSRefIdeal.main_arg4) = m ((c.tc : Thread Cert.MixSIdeal.nD Cert.MixSIdeal.τ).loc Cert.MixSIdeal.main_arg4)
      ∧ m' ((c.tc : Thread Cert.MixSRefIdeal.nD Cert.MixSRefIdeal.τ).loc Cert.MixSRefIdeal.main_arg5) = m ((c.tc : Thread Cert.MixSIdeal.nD Cert.MixSIdeal.τ).loc Cert.MixSIdeal.main_arg5)
      ∧ m' ((c.tc : Thread Cert.MixSRefIdeal.nD Cert.MixSRefIdeal.τ).loc Cert.MixSRefIdeal.main_arg6) = m ((c.tc : Thread Cert.MixSIdeal.nD Cert.MixSIdeal.τ).loc Cert.MixSIdeal.main_arg6)
      ∧ m' ((c.tc : Thread Cert.MixSRefIdeal.nD Cert.MixSRefIdeal.τ).loc Cert.MixSRefIdeal.main_arg7) = m ((c.tc : Thread Cert.MixSIdeal.nD Cert.MixSIdeal.τ).loc Cert.MixSIdeal.main_arg7)
      ∧ m' ((c.tc : Thread Cert.MixSRefIdeal.nD Cert.MixSRefIdeal.τ).loc Cert.MixSRefIdeal.main_arg8) = m ((c.tc : Thread Cert.MixSIdeal.nD Cert.MixSIdeal.τ).loc Cert.MixSIdeal.main_arg8)
      ∧ m' ((c.tc : Thread Cert.MixSRefIdeal.nD Cert.MixSRefIdeal.τ).loc Cert.MixSRefIdeal.main_arg9) = m ((c.tc : Thread Cert.MixSIdeal.nD Cert.MixSIdeal.τ).loc Cert.MixSIdeal.main_arg9)
      ∧ m' ((c.tc : Thread Cert.MixSRefIdeal.nD Cert.MixSRefIdeal.τ).loc Cert.MixSRefIdeal.main_arg10) = m ((c.tc : Thread Cert.MixSIdeal.nD Cert.MixSIdeal.τ).loc Cert.MixSIdeal.main_arg10)
      ∧ m' ((c.tc : Thread Cert.MixSRefIdeal.nD Cert.MixSRefIdeal.τ).loc Cert.MixSRefIdeal.main_arg11) = m ((c.tc : Thread Cert.MixSIdeal.nD Cert.MixSIdeal.τ).loc Cert.MixSIdeal.main_arg11)
      ∧ m' ((c.tc : Thread Cert.MixSRefIdeal.nD Cert.MixSRefIdeal.τ).loc Cert.MixSRefIdeal.main_arg12) = m ((c.tc : Thread Cert.MixSIdeal.nD Cert.MixSIdeal.τ).loc Cert.MixSIdeal.main_arg12)
      ∧ m' ((c.tc : Thread Cert.MixSRefIdeal.nD Cert.MixSRefIdeal.τ).loc Cert.MixSRefIdeal.main_arg13) = m ((c.tc : Thread Cert.MixSIdeal.nD Cert.MixSIdeal.τ).loc Cert.MixSIdeal.main_arg13)
      ∧ m' ((c.tc : Thread Cert.MixSRefIdeal.nD Cert.MixSRefIdeal.τ).loc Cert.MixSRefIdeal.main_arg14) = m ((c.tc : Thread Cert.MixSIdeal.nD Cert.MixSIdeal.τ).loc Cert.MixSIdeal.main_arg14)
      ∧ m' ((c.tc : Thread Cert.MixSRefIdeal.nD Cert.MixSRefIdeal.τ).loc Cert.MixSRefIdeal.main_arg15) = m ((c.tc : Thread Cert.MixSIdeal.nD Cert.MixSIdeal.τ).loc Cert.MixSIdeal.main_arg15)
      ∧ m' ((c.tc : Thread Cert.MixSRefIdeal.nD Cert.MixSRefIdeal.τ).loc Cert.MixSRefIdeal.main_arg16) = m ((c.tc : Thread Cert.MixSIdeal.nD Cert.MixSIdeal.τ).loc Cert.MixSIdeal.main_arg16)
      ∧ m' ((c.tc : Thread Cert.MixSRefIdeal.nD Cert.MixSRefIdeal.τ).loc Cert.MixSRefIdeal.main_arg17) = m ((c.tc : Thread Cert.MixSIdeal.nD Cert.MixSIdeal.τ).loc Cert.MixSIdeal.main_arg17)
      ∧ m' ((c.tc : Thread Cert.MixSRefIdeal.nD Cert.MixSRefIdeal.τ).loc Cert.MixSRefIdeal.main_arg18) = m ((c.tc : Thread Cert.MixSIdeal.nD Cert.MixSIdeal.τ).loc Cert.MixSIdeal.main_arg18)
      ∧ m' ((c.tc : Thread Cert.MixSRefIdeal.nD Cert.MixSRefIdeal.τ).loc Cert.MixSRefIdeal.main_arg19) = m ((c.tc : Thread Cert.MixSIdeal.nD Cert.MixSIdeal.τ).loc Cert.MixSIdeal.main_arg19)) →
    ∃ (v0 : (c : Dev Cert.MixSIdeal.nD) → Buf (Elt Ideal) ((c.tc : Thread Cert.MixSIdeal.nD Cert.MixSIdeal.τ).loc Cert.MixSIdeal.main_v72_0)) (v1 : (c : Dev Cert.MixSIdeal.nD) → Buf (Elt Ideal) ((c.tc : Thread Cert.MixSIdeal.nD Cert.MixSIdeal.τ).loc Cert.MixSIdeal.main_v72_1)),
      θ_run (Cert.MixSIdeal.defs (F := Ideal)) (onTc (τ := Cert.MixSIdeal.τ) (Cert.MixSIdeal.main (F := Ideal))) ⟨m, fun _ => 0, g⟩ (fun r => ∀ c : Dev Cert.MixSIdeal.nD,
          r.2.mem ((c.tc : Thread Cert.MixSIdeal.nD Cert.MixSIdeal.τ).loc Cert.MixSIdeal.main_v72_0) = v0 c
          ∧ r.2.mem ((c.tc : Thread Cert.MixSIdeal.nD Cert.MixSIdeal.τ).loc Cert.MixSIdeal.main_v72_1) = v1 c
          ∧ r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
          ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
          ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2)
          ∧ r.2.mem ((c.tc : Thread Cert.MixSIdeal.nD Cert.MixSIdeal.τ).loc Cert.MixSIdeal.main_arg3) = m ((c.tc : Thread Cert.MixSIdeal.nD Cert.MixSIdeal.τ).loc Cert.MixSIdeal.main_arg3)
          ∧ r.2.mem ((c.tc : Thread Cert.MixSIdeal.nD Cert.MixSIdeal.τ).loc Cert.MixSIdeal.main_arg4) = m ((c.tc : Thread Cert.MixSIdeal.nD Cert.MixSIdeal.τ).loc Cert.MixSIdeal.main_arg4)
          ∧ r.2.mem ((c.tc : Thread Cert.MixSIdeal.nD Cert.MixSIdeal.τ).loc Cert.MixSIdeal.main_arg5) = m ((c.tc : Thread Cert.MixSIdeal.nD Cert.MixSIdeal.τ).loc Cert.MixSIdeal.main_arg5)
          ∧ r.2.mem ((c.tc : Thread Cert.MixSIdeal.nD Cert.MixSIdeal.τ).loc Cert.MixSIdeal.main_arg6) = m ((c.tc : Thread Cert.MixSIdeal.nD Cert.MixSIdeal.τ).loc Cert.MixSIdeal.main_arg6)
          ∧ r.2.mem ((c.tc : Thread Cert.MixSIdeal.nD Cert.MixSIdeal.τ).loc Cert.MixSIdeal.main_arg7) = m ((c.tc : Thread Cert.MixSIdeal.nD Cert.MixSIdeal.τ).loc Cert.MixSIdeal.main_arg7)
          ∧ r.2.mem ((c.tc : Thread Cert.MixSIdeal.nD Cert.MixSIdeal.τ).loc Cert.MixSIdeal.main_arg8) = m ((c.tc : Thread Cert.MixSIdeal.nD Cert.MixSIdeal.τ).loc Cert.MixSIdeal.main_arg8)
          ∧ r.2.mem ((c.tc : Thread Cert.MixSIdeal.nD Cert.MixSIdeal.τ).loc Cert.MixSIdeal.main_arg9) = m ((c.tc : Thread Cert.MixSIdeal.nD Cert.MixSIdeal.τ).loc Cert.MixSIdeal.main_arg9)
          ∧ r.2.mem ((c.tc : Thread Cert.MixSIdeal.nD Cert.MixSIdeal.τ).loc Cert.MixSIdeal.main_arg10) = m ((c.tc : Thread Cert.MixSIdeal.nD Cert.MixSIdeal.τ).loc Cert.MixSIdeal.main_arg10)
          ∧ r.2.mem ((c.tc : Thread Cert.MixSIdeal.nD Cert.MixSIdeal.τ).loc Cert.MixSIdeal.main_arg11) = m ((c.tc : Thread Cert.MixSIdeal.nD Cert.MixSIdeal.τ).loc Cert.MixSIdeal.main_arg11)
          ∧ r.2.mem ((c.tc : Thread Cert.MixSIdeal.nD Cert.MixSIdeal.τ).loc Cert.MixSIdeal.main_arg12) = m ((c.tc : Thread Cert.MixSIdeal.nD Cert.MixSIdeal.τ).loc Cert.MixSIdeal.main_arg12)
          ∧ r.2.mem ((c.tc : Thread Cert.MixSIdeal.nD Cert.MixSIdeal.τ).loc Cert.MixSIdeal.main_arg13) = m ((c.tc : Thread Cert.MixSIdeal.nD Cert.MixSIdeal.τ).loc Cert.MixSIdeal.main_arg13)
          ∧ r.2.mem ((c.tc : Thread Cert.MixSIdeal.nD Cert.MixSIdeal.τ).loc Cert.MixSIdeal.main_arg14) = m ((c.tc : Thread Cert.MixSIdeal.nD Cert.MixSIdeal.τ).loc Cert.MixSIdeal.main_arg14)
          ∧ r.2.mem ((c.tc : Thread Cert.MixSIdeal.nD Cert.MixSIdeal.τ).loc Cert.MixSIdeal.main_arg15) = m ((c.tc : Thread Cert.MixSIdeal.nD Cert.MixSIdeal.τ).loc Cert.MixSIdeal.main_arg15)
          ∧ r.2.mem ((c.tc : Thread Cert.MixSIdeal.nD Cert.MixSIdeal.τ).loc Cert.MixSIdeal.main_arg16) = m ((c.tc : Thread Cert.MixSIdeal.nD Cert.MixSIdeal.τ).loc Cert.MixSIdeal.main_arg16)
          ∧ r.2.mem ((c.tc : Thread Cert.MixSIdeal.nD Cert.MixSIdeal.τ).loc Cert.MixSIdeal.main_arg17) = m ((c.tc : Thread Cert.MixSIdeal.nD Cert.MixSIdeal.τ).loc Cert.MixSIdeal.main_arg17)
          ∧ r.2.mem ((c.tc : Thread Cert.MixSIdeal.nD Cert.MixSIdeal.τ).loc Cert.MixSIdeal.main_arg18) = m ((c.tc : Thread Cert.MixSIdeal.nD Cert.MixSIdeal.τ).loc Cert.MixSIdeal.main_arg18)
          ∧ r.2.mem ((c.tc : Thread Cert.MixSIdeal.nD Cert.MixSIdeal.τ).loc Cert.MixSIdeal.main_arg19) = m ((c.tc : Thread Cert.MixSIdeal.nD Cert.MixSIdeal.τ).loc Cert.MixSIdeal.main_arg19))
      ∧ θ_run (Cert.MixSRefIdeal.defs (F := Ideal)) (onTc (τ := Cert.MixSRefIdeal.τ) (Cert.MixSRefIdeal.main (F := Ideal))) ⟨m', fun _ => 0, g'⟩ (fun r => ∀ c : Dev Cert.MixSRefIdeal.nD,
          r.2.mem ((c.tc : Thread Cert.MixSRefIdeal.nD Cert.MixSRefIdeal.τ).loc Cert.MixSRefIdeal.main_v149) = v0 c
          ∧ r.2.mem ((c.tc : Thread Cert.MixSRefIdeal.nD Cert.MixSRefIdeal.τ).loc Cert.MixSRefIdeal.main_v85) = v1 c
          ∧ r.2.mem ((c.tc : Thread Cert.MixSRefIdeal.nD Cert.MixSRefIdeal.τ).loc Cert.MixSRefIdeal.main_arg0) = m' ((c.tc : Thread Cert.MixSRefIdeal.nD Cert.MixSRefIdeal.τ).loc Cert.MixSRefIdeal.main_arg0)
          ∧ r.2.mem ((c.tc : Thread Cert.MixSRefIdeal.nD Cert.MixSRefIdeal.τ).loc Cert.MixSRefIdeal.main_arg1) = m' ((c.tc : Thread Cert.MixSRefIdeal.nD Cert.MixSRefIdeal.τ).loc Cert.MixSRefIdeal.main_arg1)
          ∧ r.2.mem ((c.tc : Thread Cert.MixSRefIdeal.nD Cert.MixSRefIdeal.τ).loc Cert.MixSRefIdeal.main_arg2) = m' ((c.tc : Thread Cert.MixSRefIdeal.nD Cert.MixSRefIdeal.τ).loc Cert.MixSRefIdeal.main_arg2)
          ∧ r.2.mem ((c.tc : Thread Cert.MixSRefIdeal.nD Cert.MixSRefIdeal.τ).loc Cert.MixSRefIdeal.main_arg3) = m' ((c.tc : Thread Cert.MixSRefIdeal.nD Cert.MixSRefIdeal.τ).loc Cert.MixSRefIdeal.main_arg3)
          ∧ r.2.mem ((c.tc : Thread Cert.MixSRefIdeal.nD Cert.MixSRefIdeal.τ).loc Cert.MixSRefIdeal.main_arg4) = m' ((c.tc : Thread Cert.MixSRefIdeal.nD Cert.MixSRefIdeal.τ).loc Cert.MixSRefIdeal.main_arg4)
          ∧ r.2.mem ((c.tc : Thread Cert.MixSRefIdeal.nD Cert.MixSRefIdeal.τ).loc Cert.MixSRefIdeal.main_arg5) = m' ((c.tc : Thread Cert.MixSRefIdeal.nD Cert.MixSRefIdeal.τ).loc Cert.MixSRefIdeal.main_arg5)
          ∧ r.2.mem ((c.tc : Thread Cert.MixSRefIdeal.nD Cert.MixSRefIdeal.τ).loc Cert.MixSRefIdeal.main_arg6) = m' ((c.tc : Thread Cert.MixSRefIdeal.nD Cert.MixSRefIdeal.τ).loc Cert.MixSRefIdeal.main_arg6)
          ∧ r.2.mem ((c.tc : Thread Cert.MixSRefIdeal.nD Cert.MixSRefIdeal.τ).loc Cert.MixSRefIdeal.main_arg7) = m' ((c.tc : Thread Cert.MixSRefIdeal.nD Cert.MixSRefIdeal.τ).loc Cert.MixSRefIdeal.main_arg7)
          ∧ r.2.mem ((c.tc : Thread Cert.MixSRefIdeal.nD Cert.MixSRefIdeal.τ).loc Cert.MixSRefIdeal.main_arg8) = m' ((c.tc : Thread Cert.MixSRefIdeal.nD Cert.MixSRefIdeal.τ).loc Cert.MixSRefIdeal.main_arg8)
          ∧ r.2.mem ((c.tc : Thread Cert.MixSRefIdeal.nD Cert.MixSRefIdeal.τ).loc Cert.MixSRefIdeal.main_arg9) = m' ((c.tc : Thread Cert.MixSRefIdeal.nD Cert.MixSRefIdeal.τ).loc Cert.MixSRefIdeal.main_arg9)
          ∧ r.2.mem ((c.tc : Thread Cert.MixSRefIdeal.nD Cert.MixSRefIdeal.τ).loc Cert.MixSRefIdeal.main_arg10) = m' ((c.tc : Thread Cert.MixSRefIdeal.nD Cert.MixSRefIdeal.τ).loc Cert.MixSRefIdeal.main_arg10)
          ∧ r.2.mem ((c.tc : Thread Cert.MixSRefIdeal.nD Cert.MixSRefIdeal.τ).loc Cert.MixSRefIdeal.main_arg11) = m' ((c.tc : Thread Cert.MixSRefIdeal.nD Cert.MixSRefIdeal.τ).loc Cert.MixSRefIdeal.main_arg11)
          ∧ r.2.mem ((c.tc : Thread Cert.MixSRefIdeal.nD Cert.MixSRefIdeal.τ).loc Cert.MixSRefIdeal.main_arg12) = m' ((c.tc : Thread Cert.MixSRefIdeal.nD Cert.MixSRefIdeal.τ).loc Cert.MixSRefIdeal.main_arg12)
          ∧ r.2.mem ((c.tc : Thread Cert.MixSRefIdeal.nD Cert.MixSRefIdeal.τ).loc Cert.MixSRefIdeal.main_arg13) = m' ((c.tc : Thread Cert.MixSRefIdeal.nD Cert.MixSRefIdeal.τ).loc Cert.MixSRefIdeal.main_arg13)
          ∧ r.2.mem ((c.tc : Thread Cert.MixSRefIdeal.nD Cert.MixSRefIdeal.τ).loc Cert.MixSRefIdeal.main_arg14) = m' ((c.tc : Thread Cert.MixSRefIdeal.nD Cert.MixSRefIdeal.τ).loc Cert.MixSRefIdeal.main_arg14)
          ∧ r.2.mem ((c.tc : Thread Cert.MixSRefIdeal.nD Cert.MixSRefIdeal.τ).loc Cert.MixSRefIdeal.main_arg15) = m' ((c.tc : Thread Cert.MixSRefIdeal.nD Cert.MixSRefIdeal.τ).loc Cert.MixSRefIdeal.main_arg15)
          ∧ r.2.mem ((c.tc : Thread Cert.MixSRefIdeal.nD Cert.MixSRefIdeal.τ).loc Cert.MixSRefIdeal.main_arg16) = m' ((c.tc : Thread Cert.MixSRefIdeal.nD Cert.MixSRefIdeal.τ).loc Cert.MixSRefIdeal.main_arg16)
          ∧ r.2.mem ((c.tc : Thread Cert.MixSRefIdeal.nD Cert.MixSRefIdeal.τ).loc Cert.MixSRefIdeal.main_arg17) = m' ((c.tc : Thread Cert.MixSRefIdeal.nD Cert.MixSRefIdeal.τ).loc Cert.MixSRefIdeal.main_arg17)
          ∧ r.2.mem ((c.tc : Thread Cert.MixSRefIdeal.nD Cert.MixSRefIdeal.τ).loc Cert.MixSRefIdeal.main_arg18) = m' ((c.tc : Thread Cert.MixSRefIdeal.nD Cert.MixSRefIdeal.τ).loc Cert.MixSRefIdeal.main_arg18)
          ∧ r.2.mem ((c.tc : Thread Cert.MixSRefIdeal.nD Cert.MixSRefIdeal.τ).loc Cert.MixSRefIdeal.main_arg19) = m' ((c.tc : Thread Cert.MixSRefIdeal.nD Cert.MixSRefIdeal.τ).loc Cert.MixSRefIdeal.main_arg19))

def Claim : Prop :=
  ∃ (hFfn : Cert.Ffn.Facts) (hFfnIdeal : Cert.FfnIdeal.Facts) (hFfnRefIdeal : Cert.FfnRefIdeal.Facts) (hIn : Cert.In.Facts) (hInIdeal : Cert.InIdeal.Facts) (hInRefIdeal : Cert.InRefIdeal.Facts) (hMixS : Cert.MixS.Facts) (hMixSIdeal : Cert.MixSIdeal.Facts) (hMixSRefIdeal : Cert.MixSRefIdeal.Facts),
    quiescent_Ffn (hFfn := hFfn)
    ∧ quiescent_FfnIdeal (hFfnIdeal := hFfnIdeal)
    ∧ quiescent_FfnRefIdeal (hFfnRefIdeal := hFfnRefIdeal)
    ∧ quiescent_In (hIn := hIn)
    ∧ quiescent_InIdeal (hInIdeal := hInIdeal)
    ∧ quiescent_InRefIdeal (hInRefIdeal := hInRefIdeal)
    ∧ quiescent_MixS (hMixS := hMixS)
    ∧ quiescent_MixSIdeal (hMixSIdeal := hMixSIdeal)
    ∧ quiescent_MixSRefIdeal (hMixSRefIdeal := hMixSRefIdeal)
    ∧ preserves_Ffn_FfnIdeal
    ∧ algebraic_FfnIdeal_FfnRefIdeal (hFfnIdeal := hFfnIdeal) (hFfnRefIdeal := hFfnRefIdeal)
    ∧ preserves_In_InIdeal
    ∧ algebraic_InIdeal_InRefIdeal (hInIdeal := hInIdeal) (hInRefIdeal := hInRefIdeal)
    ∧ preserves_MixS_MixSIdeal
    ∧ algebraic_MixSIdeal_MixSRefIdeal (hMixSIdeal := hMixSIdeal) (hMixSRefIdeal := hMixSRefIdeal)
-- ==== Ffn.lean ====
abbrev S16x2048x1024 : Shape := ⟨3, ![16, 2048, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S32768x1024 : Shape := ⟨2, ![32768, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 18
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S1024x2816, .f32⟩
  | .hbm, ⟨7, _⟩ => ⟨S1024x2816, .bf16⟩
  | .hbm, ⟨8, _⟩ => ⟨S1024x2816, .f32⟩
  | .hbm, ⟨9, _⟩ => ⟨S1024x2816, .bf16⟩
  | .hbm, ⟨10, _⟩ => ⟨S2816x1024, .f32⟩
  | .hbm, ⟨11, _⟩ => ⟨S2816x1024, .bf16⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S32768x1024, .f32⟩
  | .hbm, ⟨17, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S16x2048x1024 : Shape := ⟨3, ![16, 2048, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S32768x1024 : Shape := ⟨2, ![32768, 1024]⟩
abbrev S1024x2816 : Shape := ⟨2, ![1024, 2816]⟩
abbrev S32768x2816 : Shape := ⟨2, ![32768, 2816]⟩
abbrev S_ : Shape := ⟨0, ![]⟩
abbrev S2816x1024 : Shape := ⟨2, ![2816, 1024]⟩
abbrev S1024 : Shape := ⟨1, ![1024]⟩
abbrev S32768 : Shape := ⟨1, ![32768]⟩
abbrev S32768x1 : Shape := ⟨2, ![32768, 1]⟩

abbrev nBuf : Space → Nat
  | .hbm => 61
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S32768x1024, .f32⟩
  | .hbm, ⟨7, _⟩ => ⟨S1024x2816, .f32⟩
  | .hbm, ⟨8, _⟩ => ⟨S32768x2816, .f32⟩
  | .hbm, ⟨9, _⟩ => ⟨S32768x2816, .f32⟩
  | .hbm, ⟨10, _⟩ => ⟨S32768x2816, .f32⟩
  | .hbm, ⟨11, _⟩ => ⟨S_, .f32⟩
  | .hbm, ⟨12, _⟩ => ⟨S32768x2816, .f32⟩
  | .hbm, ⟨13, _⟩ => ⟨S32768x2816, .f32⟩
  | .hbm, ⟨14, _⟩ => ⟨S_, .f32⟩
  | .hbm, ⟨15, _⟩ => ⟨S32768x2816, .f32⟩
  | .hbm, ⟨16, _⟩ => ⟨S32768x2816, .f32⟩
  | .hbm, ⟨17, _⟩ => ⟨S32768x2816, .f32⟩
  | .hbm, ⟨18, _⟩ => ⟨S1024x2816, .f32⟩
  | .hbm, ⟨19, _⟩ => ⟨S32768x2816, .f32⟩
  | .hbm, ⟨20, _⟩ => ⟨S32768x2816, .f32⟩
  | .hbm, ⟨21, _⟩ => ⟨S2816x1024, .f32⟩
  | .hbm, ⟨22, _⟩ => ⟨S32768x1024, .f32⟩
  | .hbm, ⟨23, _⟩ => ⟨S_, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S1024, .f32⟩
  | .hbm, ⟨31, _⟩ => ⟨S1024, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S32768x1024, .f32⟩
  | .hbm, ⟨48, _⟩ => ⟨S32768x1024, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S32768x1, .f32⟩
  | .hbm, ⟨53, _⟩ => ⟨S32768x1024, .f32⟩
  | .hbm, ⟨54, _⟩ => ⟨S32768x1024, .f32⟩
  | .hbm, ⟨55, _⟩ => ⟨S1x1024, .f32⟩
  | .hbm, ⟨56, _⟩ => ⟨S32768x1024, .f32⟩
  | .hbm, ⟨57, _⟩ => ⟨S32768x1024, .f32⟩
  | .hbm, ⟨58, _⟩ => ⟨S1x1024, .f32⟩
  | .hbm, ⟨59, _⟩ => ⟨S32768x1024, .f32⟩
  | .hbm, ⟨60, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== In.lean ====
abbrev S16x2048x1024 : Shape := ⟨3, ![16, 2048, 1024]⟩
abbrev S1x1024x5400 : Shape := ⟨3, ![1, 1024, 5400]⟩
abbrev S1024x5400 : Shape := ⟨2, ![1024, 5400]⟩
abbrev S1024x1304 : Shape := ⟨2, ![1024, 1304]⟩
abbrev S_ : Shape := ⟨0, ![]⟩
abbrev S1024x1408 : Shape := ⟨2, ![1024, 1408]⟩
abbrev S1024x4096 : Shape := ⟨2, ![1024, 4096]⟩
abbrev S1024x1024 : Shape := ⟨2, ![1024, 1024]⟩
abbrev S1024x3072 : Shape := ⟨2, ![1024, 3072]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S32768x1024 : Shape := ⟨2, ![32768, 1024]⟩
abbrev S32768x256 : Shape := ⟨2, ![32768, 256]⟩
abbrev S32768x128 : Shape := ⟨2, ![32768, 128]⟩
abbrev S16x512x2048 : Shape := ⟨3, ![16, 512, 2048]⟩
abbrev S16x128x2048 : Shape := ⟨3, ![16, 128, 2048]⟩
abbrev S16x256x2048 : Shape := ⟨3, ![16, 256, 2048]⟩
abbrev S256x1024 : Shape := ⟨2, ![256, 1024]⟩
abbrev S256x128 : Shape := ⟨2, ![256, 128]⟩
abbrev S256x256 : Shape := ⟨2, ![256, 256]⟩
abbrev S1x512x256 : Shape := ⟨3, ![1, 512, 256]⟩
abbrev S1x128x256 : Shape := ⟨3, ![1, 128, 256]⟩
abbrev S1x256x256 : Shape := ⟨3, ![1, 256, 256]⟩
abbrev S256x1408 : Shape := ⟨2, ![256, 1408]⟩
abbrev S256x512 : Shape := ⟨2, ![256, 512]⟩
abbrev S256x768 : Shape := ⟨2, ![256, 768]⟩
abbrev S512x256 : Shape := ⟨2, ![512, 256]⟩
abbrev S128x256 : Shape := ⟨2, ![128, 256]⟩
abbrev S256x4096 : Shape := ⟨2, ![256, 4096]⟩

abbrev nBuf : Space → Nat
  | .hbm => 57
  | .vmem => 34
  | .smem => 0
  | _ => 0

abbrev bufTy : (tb : Table) → Fin (tcTables nBuf tb) → BufTy
  | .hbm, ⟨0, _⟩ => ⟨S16x2048x1024, .f32⟩
  | .hbm, ⟨1, _⟩ => ⟨S1x1024x5400, .f32⟩
  | .hbm, ⟨2, _⟩ => ⟨S1024x5400, .f32⟩
  | .hbm, ⟨3, _⟩ => ⟨S1024x1304, .f32⟩
  | .hbm, ⟨4, _⟩ => ⟨S_, .i32⟩
  | .hbm, ⟨5, _⟩ => ⟨S_, .f32⟩
  | .hbm, ⟨6, _⟩ => ⟨S1024x1408, .f32⟩
  | .hbm, ⟨7, _⟩ => ⟨S1024x1408, .bf16⟩
  | .hbm, ⟨8, _⟩ => ⟨S1024x5400, .f32⟩
  | .hbm, ⟨9, _⟩ => ⟨S1024x4096, .f32⟩
  | .hbm, ⟨10, _⟩ => ⟨S1024x1024, .f32⟩
  | .hbm, ⟨11, _⟩ => ⟨S1024x3072, .f32⟩
  | .hbm, ⟨12, _⟩ => ⟨S_, .f32⟩
  | .hbm, ⟨13, _⟩ => ⟨S1024x3072, .f32⟩
  | .hbm, ⟨14, _⟩ => ⟨S1024x3072, .f32⟩
  | .hbm, ⟨15, _⟩ => ⟨S1024x4096, .f32⟩
  | .hbm, ⟨16, _⟩ => ⟨S1024x4096, .bf16⟩
  | .hbm, ⟨17, _⟩ => ⟨S2048, .i32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S2048, .f32⟩
  | .hbm, ⟨27, _⟩ => ⟨S2048x1, .f32⟩
  | .hbm, ⟨28, _⟩ => ⟨S1x32, .f32⟩
  | .hbm, ⟨29, _⟩ => ⟨S2048x32, .f32⟩
  | .hbm, ⟨30, _⟩ => ⟨S2048x32, .f32⟩
  | .hbm, ⟨31, _⟩ => ⟨S2048x32, .f32⟩
  | .hbm, ⟨32, _⟩ => ⟨S2048x32, .f32⟩
  | .hbm, ⟨33, _⟩ => ⟨S2048x32, .f32⟩
  | .hbm, ⟨34, _⟩ => ⟨S2048x64, .f32⟩
  | .hbm, ⟨35, _⟩ => ⟨S1x2048x1x64, .f32⟩
  | .hbm, ⟨36, _⟩ => ⟨S1x2048x2x64, .f32⟩
  | .hbm, ⟨37, _⟩ => ⟨S2048x128, .f32⟩
  | .hbm, ⟨38, _⟩ => ⟨S2048x32, .f32⟩
  | .hbm, ⟨39, _⟩ => ⟨S2048x64, .f32⟩
  | .hbm, ⟨40, _⟩ => ⟨S1x2048x1x64, .f32⟩
  | .hbm, ⟨41, _⟩ => ⟨S1x2048x2x64, .f32⟩
  | .hbm, ⟨42, _⟩ => ⟨S2048x128, .f32⟩
  | .hbm, ⟨43, _⟩ => ⟨S32768x1024, .f32⟩
  | .hbm, ⟨44, _⟩ => ⟨S32768x256, .f32⟩
  | .hbm, ⟨45, _⟩ => ⟨S32768x128, .bf16⟩
  | .hbm, ⟨46, _⟩ => ⟨S32768x128, .bf16⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S16x512x2048, .f32⟩
  | .hbm, ⟨52, _⟩ => ⟨S16x512x2048, .f32⟩
  | .hbm, ⟨53, _⟩ => ⟨S16x128x2048, .f32⟩
  | .hbm, ⟨54, _⟩ => ⟨S16x256x2048, .f32⟩
  | .hbm, ⟨55, _⟩ => ⟨S16x256x2048, .f32⟩
  | .hbm, ⟨56, _⟩ => ⟨S16x256x2048, .f32⟩
  | .local _ .vmem, ⟨0, _⟩ => ⟨S256x1024, .f32⟩
  | .local _ .vmem, ⟨1, _⟩ => ⟨S256x1024, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1024x1408, .bf16⟩
  | .local _ .vmem, ⟨7, _⟩ => ⟨S1024x4096, .bf16⟩
  | .local _ .vmem, ⟨8, _⟩ => ⟨S256x256, .f32⟩
  | .local _ .vmem, ⟨9, _⟩ => ⟨S256x256, .f32⟩
  | .local _ .vmem, ⟨10, _⟩ => ⟨S256x128, .bf16⟩
  | .local _ .vmem, ⟨11, _⟩ => ⟨S256x128, .bf16⟩
  | .local _ .vmem, ⟨12, _⟩ => ⟨S256x128, .bf16⟩
  | .local _ .vmem, ⟨13, _⟩ => ⟨S256x128, .bf16⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S1x512x256, .f32⟩
  | .local _ .vmem, ⟨23, _⟩ => ⟨S1x512x256, .f32⟩
  | .local _ .vmem, ⟨24, _⟩ => ⟨S1x512x256, .f32⟩
  | .local _ .vmem, ⟨25, _⟩ => ⟨S1x512x256, .f32⟩
  | .local _ .vmem, ⟨26, _⟩ => ⟨S1x128x256, .f32⟩
  | .local _ .vmem, ⟨27, _⟩ => ⟨S1x128x256, .f32⟩
  | .local _ .vmem, ⟨28, _⟩ => ⟨S1x256x256, .f32⟩
  | .local _ .vmem, ⟨29, _⟩ => ⟨S1x256x256, .f32⟩
  | .local _ .vmem, ⟨30, _⟩ => ⟨S1x256x256, .f32⟩
  | .local _ .vmem, ⟨31, _⟩ => ⟨S1x256x256, .f32⟩
  | .local _ .vmem, ⟨32, _⟩ => ⟨S1x256x256, .f32⟩
  | .local _ .vmem, ⟨33, _⟩ => ⟨S1x256x256, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37_0 : Ref sig .tc := ⟨.hbm, 44, rfl⟩
abbrev main_v37_1 : Ref sig .tc := ⟨.hbm, 45, rfl⟩
abbrev main_v37_2 : Ref sig .tc := ⟨.hbm, 46, rfl⟩
abbrev main_v37_3 : Ref sig .tc := ⟨.hbm, 47, rfl⟩
abbrev main_v37_4 : Ref sig .tc := ⟨.hbm, 48, rfl⟩
abbrev main_v37_5 : Ref sig .tc := ⟨.hbm, 49, rfl⟩
abbrev main_v37_6 : Ref sig .tc := ⟨.hbm, 50, rfl⟩
abbrev main_v37_7 : Ref sig .tc := ⟨.hbm, 51, rfl⟩
abbrev main_v37_8 : Ref sig .tc := ⟨.hbm, 52, rfl⟩
abbrev main_v37_9 : Ref sig .tc := ⟨.hbm, 53, rfl⟩
abbrev main_v37_10 : Ref sig .tc := ⟨.hbm, 54, rfl⟩
abbrev main_v37_11 : Ref sig .tc := ⟨.hbm, 55, rfl⟩
abbrev main_v37_12 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_14 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_15 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_16 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_17 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== InRefIdeal.lean ====
abbrev S16x2048x1024 : Shape := ⟨3, ![16, 2048, 1024]⟩
abbrev S1x1024x5400 : Shape := ⟨3, ![1, 1024, 5400]⟩
abbrev S2048 : Shape := ⟨1, ![2048]⟩
abbrev S1024x5400 : Shape := ⟨2, ![1024, 5400]⟩
abbrev S16x2048x5400 : Shape := ⟨3, ![16, 2048, 5400]⟩
abbrev S16x2048x512 : Shape := ⟨3, ![16, 2048, 512]⟩
abbrev S16x2048x768 : Shape := ⟨3, ![16, 2048, 768]⟩
abbrev S16x2048x24 : Shape := ⟨3, ![16, 2048, 24]⟩
abbrev S16x2048x6x2x64 : Shape := ⟨5, ![16, 2048, 6, 2, 64]⟩
abbrev S16x2048x2x4x64 : Shape := ⟨5, ![16, 2048, 2, 4, 64]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S1x2048x1x1x32 : Shape := ⟨5, ![1, 2048, 1, 1, 32]⟩
abbrev S16x2048x2x4x32 : Shape := ⟨5, ![16, 2048, 2, 4, 32]⟩
abbrev S16x2048x2x2x64 : Shape := ⟨5, ![16, 2048, 2, 2, 64]⟩
abbrev S16x2048x1x2x64 : Shape := ⟨5, ![16, 2048, 1, 2, 64]⟩
abbrev S16x2048x2x64 : Shape := ⟨4, ![16, 2048, 2, 64]⟩
abbrev S1x2048x1x32 : Shape := ⟨4, ![1, 2048, 1, 32]⟩
abbrev S16x2048x2x32 : Shape := ⟨4, ![16, 2048, 2, 32]⟩
abbrev S16x2048x128 : Shape := ⟨3, ![16, 2048, 128]⟩
abbrev S32768x256 : Shape := ⟨2, ![32768, 256]⟩
abbrev S32768x128 : Shape := ⟨2, ![32768, 128]⟩
abbrev S32768x1024 : Shape := ⟨2, ![32768, 1024]⟩
abbrev S16x512x2048 : Shape := ⟨3, ![16, 512, 2048]⟩
abbrev S16x128x2048 : Shape := ⟨3, ![16, 128, 2048]⟩
abbrev S16x2048x256 : Shape := ⟨3, ![16, 2048, 256]⟩
abbrev S16x256x2048 : Shape := ⟨3, ![16, 256, 2048]⟩

abbrev nBuf : Space → Nat
  | .hbm => 165
  | .vmem => 0
  | .smem => 0
  | _ => 0

abbrev hbmTy0_0 (i : Nat) : BufTy := match i % 128 with
  | 0 => ⟨S16x2048x1024, .f32⟩
  | 1 => ⟨S1x1024x5400, .f32⟩
  | 2 => ⟨S2048, .i32⟩
  | 3 => ⟨S1024x5400, .f32⟩
  | 4 => ⟨S16x2048x5400, .f32⟩
  | 5 => ⟨S16x2048x512, .f32⟩
  | 6 => ⟨S16x2048x768, .f32⟩
  | 7 => ⟨S16x2048x24, .f32⟩
  | 8 => ⟨S16x2048x1024, .f32⟩
  | 9 => ⟨S16x2048x1024, .f32⟩
  | 10 => ⟨S16x2048x1024, .f32⟩
  | 11 => ⟨S16x2048x1024, .f32⟩
  | 12 => ⟨S16x2048x6x2x64, .f32⟩
  | 13 => ⟨S16x2048x2x4x64, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S2048, .f32⟩
  | 23 => ⟨S2048x1, .f32⟩
  | 24 => ⟨S1x32, .f32⟩
  | 25 => ⟨S2048x32, .f32⟩
  | 26 => ⟨S2048x32, .f32⟩
  | 27 => ⟨S2048x32, .f32⟩
  | 28 => ⟨S2048x32, .f32⟩
  | 29 => ⟨S1x2048x1x1x32, .f32⟩
  | 30 => ⟨S2048x32, .f32⟩
  | 31 => ⟨S1x2048x1x1x32, .f32⟩
  | 32 => ⟨S16x2048x2x4x32, .f32⟩
  | 33 => ⟨S16x2048x2x4x32, .f32⟩
  | 34 => ⟨S16x2048x2x4x32, .f32⟩
  | 35 => ⟨S16x2048x2x4x32, .f32⟩
  | 36 => ⟨S16x2048x2x4x32, .f32⟩
  | 37 => ⟨S16x2048x2x4x32, .f32⟩
  | 38 => ⟨S16x2048x2x4x32, .f32⟩
  | 39 => ⟨S16x2048x2x4x32, .f32⟩
  | 40 => ⟨S16x2048x2x4x32, .f32⟩
  | 41 => ⟨S16x2048x2x4x32, .f32⟩
  | 42 => ⟨S16x2048x2x4x32, .f32⟩
  | 43 => ⟨S16x2048x2x4x32, .f32⟩
  | 44 => ⟨S16x2048x2x4x64, .f32⟩
  | 45 => ⟨S16x2048x2x2x64, .f32⟩
  | 46 => ⟨S16x2048x1x2x64, .f32⟩
  | 47 => ⟨S16x2048x2x64, .f32⟩
  | 48 => ⟨S32, .f32⟩
  | 49 => ⟨S32, .f32⟩
  | 50 => ⟨S_, .f32⟩
  | 51 => ⟨S32, .f32⟩
  | 52 => ⟨S32, .f32⟩
  | 53 => ⟨S_, .f32⟩
  | 54 => ⟨S32, .f32⟩
  | 55 => ⟨S32, .f32⟩
  | 56 => ⟨S2048, .f32⟩
  | 57 => ⟨S2048x1, .f32⟩
  | 58 => ⟨S1x32, .f32⟩
  | 59 => ⟨S2048x32, .f32⟩
  | 60 => ⟨S2048x32, .f32⟩
  | 61 => ⟨S2048x32, .f32⟩
  | 62 => ⟨S2048x32, .f32⟩
  | 63 => ⟨S1x2048x1x32, .f32⟩
  | 64 => ⟨S2048x32, .f32⟩
  | 65 => ⟨S1x2048x1x32, .f32⟩
  | 66 => ⟨S16x2048x2x32, .f32⟩
  | 67 => ⟨S16x2048x2x32, .f32⟩
  | 68 => ⟨S16x2048x2x32, .f32⟩
  | 69 => ⟨S16x2048x2x32, .f32⟩
  | 70 => ⟨S16x2048x2x32, .f32⟩
  | 71 => ⟨S16x2048x2x32, .f32⟩
  | 72 => ⟨S16x2048x2x32, .f32⟩
  | 73 => ⟨S16x2048x2x32, .f32⟩
  | 74 => ⟨S16x2048x2x32, .f32⟩
  | 75 => ⟨S16x2048x2x32, .f32⟩
  | 76 => ⟨S16x2048x2x32, .f32⟩
  | 77 => ⟨S16x2048x2x32, .f32⟩
  | 78 => ⟨S16x2048x2x64, .f32⟩
  | 79 => ⟨S16x2048x1x2x64, .f32⟩
  | 80 => ⟨S16x2048x2x64, .f32⟩
  | 81 => ⟨S16x2048x1x2x64, .f32⟩
  | 82 => ⟨S16x2048x1x2x64, .f32⟩
  | 83 => ⟨S16x2048x2x2x64, .f32⟩
  | 84 => ⟨S16x2048x1x2x64, .f32⟩
  | 85 => ⟨S16x2048x2x64, .f32⟩
  | 86 => ⟨S32, .f32⟩
  | 87 => ⟨S32, .f32⟩
  | 88 => ⟨S_, .f32⟩
  | 89 => ⟨S32, .f32⟩
  | 90 => ⟨S32, .f32⟩
  | 91 => ⟨S_, .f32⟩
  | 92 => ⟨S32, .f32⟩
  | 93 => ⟨S32, .f32⟩
  | 94 => ⟨S2048, .f32⟩
  | 95 => ⟨S2048x1, .f32⟩
  | 96 => ⟨S1x32, .f32⟩
  | 97 => ⟨S2048x32, .f32⟩
  | 98 => ⟨S2048x32, .f32⟩
  | 99 => ⟨S2048x32, .f32⟩
  | 100 => ⟨S2048x32, .f32⟩
  | 101 => ⟨S1x2048x1x32, .f32⟩
  | 102 => ⟨S2048x32, .f32⟩
  | 103 => ⟨S1x2048x1x32, .f32⟩
  | 104 => ⟨S16x2048x2x32, .f32⟩
  | 105 => ⟨S16x2048x2x32, .f32⟩
  | 106 => ⟨S16x2048x2x32, .f32⟩
  | 107 => ⟨S16x2048x2x32, .f32⟩
  | 108 => ⟨S16x2048x2x32, .f32⟩
  | 109 => ⟨S16x2048x2x32, .f32⟩
  | 110 => ⟨S16x2048x2x32, .f32⟩
  | 111 => ⟨S16x2048x2x32, .f32⟩
  | 112 => ⟨S16x2048x2x32, .f32⟩
  | 113 => ⟨S16x2048x2x32, .f32⟩
  | 114 => ⟨S16x2048x2x32, .f32⟩
  | 115 => ⟨S16x2048x2x32, .f32⟩
  | 116 => ⟨S16x2048x2x64, .f32⟩
  | 117 => ⟨S16x2048x1x2x64, .f32⟩
  | 118 => ⟨S16x2048x2x64, .f32⟩
  | 119 => ⟨S16x2048x1x2x64, .f32⟩
  | 120 => ⟨S16x2048x1x2x64, .f32⟩
  | 121 => ⟨S16x2048x2x2x64, .f32⟩
  | 122 => ⟨S_, .i32⟩
  | 123 => ⟨S_, .f32⟩
  | 124 => ⟨S16x2048x128, .f32⟩
  | 125 => ⟨S16x2048x128, .f32⟩
  | 126 => ⟨S16x2048x128, .f32⟩
  | 127 => ⟨S_, .f32⟩
  | _ => ⟨S16x2048x1024, .f32⟩

abbrev hbmTy0_1 (i : Nat) : BufTy := match i % 128 with
  | 0 => ⟨S16x2048x128, .f32⟩
  | 1 => ⟨S16x2048x128, .f32⟩
  | 2 => ⟨S_, .f32⟩
  | 3 => ⟨S16x2048x128, .f32⟩
  | 4 => ⟨S16x2048x128, .f32⟩
  | 5 => ⟨S32768x256, .f32⟩
  | 6 => ⟨S16x2048x1x2x64, .f32⟩
  | 7 => ⟨S16x2048x2x64, .f32⟩
  | 8 => ⟨S32768x128, .f32⟩
  | 9 => ⟨S32768x128, .bf16⟩
  | 10 => ⟨S16x2048x1x2x64, .f32⟩
  | 11 => ⟨S16x2048x2x64, .f32⟩
  | 12 => ⟨S32768x128, .f32⟩
  | 13 => ⟨S32768x128, .bf16⟩
  | 14 => ⟨S32768x1024, .f32⟩
  | 15 => ⟨S_, .f32⟩
  | 16 => ⟨S16x2048x1024, .f32⟩
  | 17 => ⟨S16x2048x1024, .f32⟩
  | 18 => ⟨S32768x1024, .f32⟩
  | 19 => ⟨S_, .f32⟩
  | 20 => ⟨S16x2048x1024, .f32⟩
  | 21 => ⟨S16x2048x1024, .f32⟩
  | 22 => ⟨S32768x1024, .f32⟩
  | 23 => ⟨S_, .f32⟩
  | 24 => ⟨S16x2048x1024, .f32⟩
  | 25 => ⟨S16x2048x1024, .f32⟩
  | 26 => ⟨S32768x1024, .f32⟩
  | 27 => ⟨S16x512x2048, .f32⟩
  | 28 => ⟨S16x2048x512, .f32⟩
  | 29 => ⟨S16x512x2048, .f32⟩
  | 30 => ⟨S16x128x2048, .f32⟩
  | 31 => ⟨S16x2048x256, .f32⟩
  | 32 => ⟨S16x256x2048, .f32⟩
  | 33 => ⟨S16x2048x256, .f32⟩
  | 34 => ⟨S16x256x2048, .f32⟩
  | 35 => ⟨S16x2048x256, .f32⟩
  | 36 => ⟨S16x256x2048, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_cst_1 : Ref sig .tc := ⟨.hbm, 50, rfl⟩
abbrev main_v46 : Ref sig .tc := ⟨.hbm, 51, rfl⟩
abbrev main_v47 : Ref sig .tc := ⟨.hbm, 52, rfl⟩
abbrev main_cst_2 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_cst_3 : Ref sig .tc := ⟨.hbm, 88, rfl⟩
abbrev main_v82 : Ref sig .tc := ⟨.hbm, 89, rfl⟩
abbrev main_v83 : Ref sig .tc := ⟨.hbm, 90, rfl⟩
abbrev main_cst_4 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_c : Ref sig .tc := ⟨.hbm, 122, rfl⟩
abbrev main_call0_v0 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_cst_5 : Ref sig .tc := ⟨.hbm, 127, rfl⟩
abbrev main_v117 : Ref sig .tc := ⟨.hbm, 128, rfl⟩
abbrev main_v118 : Ref sig .tc := ⟨.hbm, 129, rfl⟩
abbrev main_cst_6 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_cst_7 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_cst_8 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_cst_9 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩

abbrev nD : Nat := 1
abbrev τ : Topo := Topo.v7x

variable {F : FTy → Type} [FloatOps F]
-- ==== MixS.lean ====
abbrev S32x1024 : Shape := ⟨2, ![32, 1024]⟩
abbrev S1x32x3x1024 : Shape := ⟨4, ![1, 32, 3, 1024]⟩
abbrev S1x32x1024 : Shape := ⟨3, ![1, 32, 1024]⟩
abbrev S32x512 : Shape := ⟨2, ![32, 512]⟩
abbrev S1x4x1024 : Shape := ⟨3, ![1, 4, 1024]⟩
abbrev S1x1024 : Shape := ⟨2, ![1, 1024]⟩
abbrev S1x16x64x64 : Shape := ⟨4, ![1, 16, 64, 64]⟩
abbrev S1x512x1024 : Shape := ⟨3, ![1, 512, 1024]⟩
abbrev S1x1024x1024 : Shape := ⟨3, ![1, 1024, 1024]⟩
abbrev S32x3x1024 : Shape := ⟨3, ![32, 3, 1024]⟩
abbrev S32x1x1024 : Shape := ⟨3, ![32, 1, 1024]⟩
abbrev S_ : Shape := ⟨0, ![]⟩
abbrev S4x1024 : Shape := ⟨2, ![4, 1024]⟩
abbrev S8x1024 : Shape := ⟨2, ![8, 1024]⟩
abbrev S1024 : Shape := ⟨1, ![1024]⟩
abbrev S16x64x64 : Shape := ⟨3, ![16, 64, 64]⟩
abbrev S4x4 : Shape := ⟨2, ![4, 4]⟩
abbrev S4x4x64x64 : Shape := ⟨4, ![4, 4, 64, 64]⟩
abbrev S1x4x1x4x1 : Shape := ⟨5, ![1, 4, 1, 4, 1]⟩
abbrev S4x4x64x1x64 : Shape := ⟨5, ![4, 4, 64, 1, 64]⟩
abbrev S4x4x64x4x64 : Shape := ⟨5, ![4, 4, 64, 4, 64]⟩
abbrev S4x256x256 : Shape := ⟨3, ![4, 256, 256]⟩
abbrev S4x256x512 : Shape := ⟨3, ![4, 256, 512]⟩
abbrev S512x1024 : Shape := ⟨2, ![512, 1024]⟩
abbrev S1024x1024 : Shape := ⟨2, ![1024, 1024]⟩
abbrev S32x256 : Shape := ⟨2, ![32, 256]⟩
abbrev S1x256x512 : Shape := ⟨3, ![1, 256, 512]⟩
abbrev S256x512 : Shape := ⟨2, ![256, 512]⟩
abbrev S32 : Shape := ⟨1, ![32]⟩
abbrev S32x1 : Shape := ⟨2, ![32, 1]⟩

abbrev nBuf : Space → Nat
  | .hbm => 106
  | .vmem => 23
  | .smem => 0
  | _ => 0

abbrev bufTy : (tb : Table) → Fin (tcTables nBuf tb) → BufTy
  | .hbm, ⟨0, _⟩ => ⟨S32x1024, .f32⟩
  | .hbm, ⟨1, _⟩ => ⟨S1x32x3x1024, .f32⟩
  | .hbm, ⟨2, _⟩ => ⟨S1x32x1024, .f32⟩
  | .hbm, ⟨3, _⟩ => ⟨S32x1024, .f32⟩
  | .hbm, ⟨4, _⟩ => ⟨S32x1024, .f32⟩
  | .hbm, ⟨5, _⟩ => ⟨S32x1024, .f32⟩
  | .hbm, ⟨6, _⟩ => ⟨S32x512, .f32⟩
  | .hbm, ⟨7, _⟩ => ⟨S32x1024, .f32⟩
  | .hbm, ⟨8, _⟩ => ⟨S1x4x1024, .f32⟩
  | .hbm, ⟨9, _⟩ => ⟨S1x1024, .f32⟩
  | .hbm, ⟨10, _⟩ => ⟨S1x16x64x64, .f32⟩
  | .hbm, ⟨11, _⟩ => ⟨S1x1024, .f32⟩
  | .hbm, ⟨12, _⟩ => ⟨S1x16x64x64, .f32⟩
  | .hbm, ⟨13, _⟩ => ⟨S1x1024, .f32⟩
  | .hbm, ⟨14, _⟩ => ⟨S1x1024, .f32⟩
  | .hbm, ⟨15, _⟩ => ⟨S1x512x1024, .f32⟩
  | .hbm, ⟨16, _⟩ => ⟨S1x1024x1024, .f32⟩
  | .hbm, ⟨17, _⟩ => ⟨S1x1024x1024, .f32⟩
  | .hbm, ⟨18, _⟩ => ⟨S1x1024, .f32⟩
  | .hbm, ⟨19, _⟩ => ⟨S1x1024, .f32⟩
  | .hbm, ⟨20, _⟩ => ⟨S32x3x1024, .f32⟩
  | .hbm, ⟨21, _⟩ => ⟨S32x1x1024, .f32⟩
  | .hbm, ⟨22, _⟩ => ⟨S32x1024, .f32⟩
  | .hbm, ⟨23, _⟩ => ⟨S32x3x1024, .f32⟩
  | .hbm, ⟨24, _⟩ => ⟨S32x1x1024, .f32⟩
  | .hbm, ⟨25, _⟩ => ⟨S32x1024, .f32⟩
  | .hbm, ⟨26, _⟩ => ⟨S32x3x1024, .f32⟩
  | .hbm, ⟨27, _⟩ => ⟨S32x1x1024, .f32⟩
  | .hbm, ⟨28, _⟩ => ⟨S32x1024, .f32⟩
  | .hbm, ⟨29, _⟩ => ⟨S32x1024, .f32⟩
  | .hbm, ⟨30, _⟩ => ⟨S_, .f32⟩
  | .hbm, ⟨31, _⟩ => ⟨S32x1024, .f32⟩
  | .hbm, ⟨32, _⟩ => ⟨S32x1024, .f32⟩
  | .hbm, ⟨33, _⟩ => ⟨S_, .f32⟩
  | .hbm, ⟨34, _⟩ => ⟨S32x1024, .f32⟩
  | .hbm, ⟨35, _⟩ => ⟨S32x1024, .f32⟩
  | .hbm, ⟨36, _⟩ => ⟨S_, .f32⟩
  | .hbm, ⟨37, _⟩ => ⟨S32x1024, .f32⟩
  | .hbm, ⟨38, _⟩ => ⟨S32x1024, .f32⟩
  | .hbm, ⟨39, _⟩ => ⟨S4x1024, .f32⟩
  | .hbm, ⟨40, _⟩ => ⟨S_, .i32⟩
  | .hbm, ⟨41, _⟩ => ⟨S_, .f32⟩
  | .hbm, ⟨42, _⟩ => ⟨S8x1024, .f32⟩
  | .hbm, ⟨43, _⟩ => ⟨S1024, .f32⟩
  | .hbm, ⟨44, _⟩ => ⟨S1x1024, .f32⟩
  | .hbm, ⟨45, _⟩ => ⟨S16x64x64, .f32⟩
  | .hbm, ⟨46, _⟩ => ⟨S_, .f32⟩
  | .hbm, ⟨47, _⟩ => ⟨S16x64x64, .f32⟩
  | .hbm, ⟨48, _⟩ => ⟨S16x64x64, .f32⟩
  | .hbm, ⟨49, _⟩ => ⟨S16x64x64, .f32⟩
  | .hbm, ⟨50, _⟩ => ⟨S_, .f32⟩
  | .hbm, ⟨51, _⟩ => ⟨S16x64x64, .f32⟩
  | .hbm, ⟨52, _⟩ => ⟨S16x64x64, .f32⟩
  | .hbm, ⟨53, _⟩ => ⟨S4x4, .i32⟩
  | .hbm, ⟨54, _⟩ => ⟨S4x4, .i32⟩
  | .hbm, ⟨55, _⟩ => ⟨S_, .i32⟩
  | .hbm, ⟨56, _⟩ => ⟨S4x4, .i32⟩
  | .hbm, ⟨57, _⟩ => ⟨S4x4, .i32⟩
  | .hbm, ⟨58, _⟩ => ⟨S4x4, .i1⟩
  | .hbm, ⟨59, _⟩ => ⟨S4x4, .f32⟩
  | .hbm, ⟨60, _⟩ => ⟨S4x4x64x64, .f32⟩
  | .hbm, ⟨61, _⟩ => ⟨S1x4x1x4x1, .f32⟩
  | .hbm, ⟨62, _⟩ => ⟨S4x4x64x1x64, .f32⟩
  | .hbm, ⟨63, _⟩ => ⟨S4x4x64x4x64, .f32⟩
  | .hbm, ⟨64, _⟩ => ⟨S4x4x64x4x64, .f32⟩
  | .hbm, ⟨65, _⟩ => ⟨S4x4x64x4x64, .f32⟩
  | .hbm, ⟨66, _⟩ => ⟨S4x256x256, .f32⟩
  | .hbm, ⟨67, _⟩ => ⟨S4x4x64x64, .f32⟩
  | .hbm, ⟨68, _⟩ => ⟨S1x4x1x4x1, .f32⟩
  | .hbm, ⟨69, _⟩ => ⟨S4x4x64x1x64, .f32⟩
  | .hbm, ⟨70, _⟩ => ⟨S4x4x64x4x64, .f32⟩
  | .hbm, ⟨71, _⟩ => ⟨S4x4x64x4x64, .f32⟩
  | .hbm, ⟨72, _⟩ => ⟨S4x4x64x4x64, .f32⟩
  | .hbm, ⟨73, _⟩ => ⟨S4x256x256, .f32⟩
  | .hbm, ⟨74, _⟩ => ⟨S4x256x512, .f32⟩
  | .hbm, ⟨75, _⟩ => ⟨S4x256x512, .bf16⟩
  | .hbm, ⟨76, _⟩ => ⟨S1024, .f32⟩
  | .hbm, ⟨77, _⟩ => ⟨S1x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S1024, .f32⟩
  | .hbm, ⟨82, _⟩ => ⟨S1x1024, .f32⟩
  | .hbm, ⟨83, _⟩ => ⟨S_, .f32⟩
  | .hbm, ⟨84, _⟩ => ⟨S1x1024, .f32⟩
  | .hbm, ⟨85, _⟩ => ⟨S1x1024, .f32⟩
  | .hbm, ⟨86, _⟩ => ⟨S1024, .f32⟩
  | .hbm, ⟨87, _⟩ => ⟨S1x1024, .f32⟩
  | .hbm, ⟨88, _⟩ => ⟨S512x1024, .f32⟩
  | .hbm, ⟨89, _⟩ => ⟨S_, .f32⟩
  | .hbm, ⟨90, _⟩ => ⟨S512x1024, .f32⟩
  | .hbm, ⟨91, _⟩ => ⟨S512x1024, .f32⟩
  | .hbm, ⟨92, _⟩ => ⟨S512x1024, .bf16⟩
  | .hbm, ⟨93, _⟩ => ⟨S1024x1024, .f32⟩
  | .hbm, ⟨94, _⟩ => ⟨S_, .f32⟩
  | .hbm, ⟨95, _⟩ => ⟨S1024x1024, .f32⟩
  | .hbm, ⟨96, _⟩ => ⟨S1024x1024, .f32⟩
  | .hbm, ⟨97, _⟩ => ⟨S1024x1024, .bf16⟩
  | .hbm, ⟨98, _⟩ => ⟨S1024x1024, .f32⟩
  | .hbm, ⟨99, _⟩ => ⟨S1024x1024, .bf16⟩
  | .hbm, ⟨100, _⟩ => ⟨S1024, .f32⟩
  | .hbm, ⟨101, _⟩ => ⟨S1x1024, .f32⟩
  | .hbm, ⟨102, _⟩ => ⟨S1024, .f32⟩
  | .hbm, ⟨103, _⟩ => ⟨S1x1024, .f32⟩
  | .hbm, ⟨104, _⟩ => ⟨S32x1024, .f32⟩
  | .hbm, ⟨105, _⟩ => ⟨S32x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x512, .f32⟩
  | .local _ .vmem, ⟨9, _⟩ => ⟨S32x1024, .f32⟩
  | .local _ .vmem, ⟨10, _⟩ => ⟨S8x1024, .f32⟩
  | .local _ .vmem, ⟨11, _⟩ => ⟨S1x1024, .f32⟩
  | .local _ .vmem, ⟨12, _⟩ => ⟨S4x256x512, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S512x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1x1024, .f32⟩
  | .local _ .vmem, ⟨20, _⟩ => ⟨S1x1024, .f32⟩
  | .local _ .vmem, ⟨21, _⟩ => ⟨S32x1024, .f32⟩
  | .local _ .vmem, ⟨22, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_v11 : Ref sig .tc := ⟨.hbm, 32, rfl⟩
abbrev main_cst_0 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c : Ref sig .tc := ⟨.hbm, 40, rfl⟩
abbrev main_call0_v0 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_2 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_3 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c_4 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_5 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_6 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_7 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_8 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72_0 : Ref sig .tc := ⟨.hbm, 104, rfl⟩
abbrev main_v72_1 : Ref sig .tc := ⟨.hbm, 105, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x256x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S32x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S32x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== MixSIdeal.lean ====
variable {F : FTy → Type} [FloatOps F] [Named F]
def κ : String → Option EReal := fun
  | "eight_root_cubic" => some ((8 * ((6693141 / 8388608) * (12003091 / 268435456)) : ℝ) : EReal)
  | _ => none
-- ==== MixSRefIdeal.lean ====
abbrev S32x1024 : Shape := ⟨2, ![32, 1024]⟩
abbrev S1x32x3x1024 : Shape := ⟨4, ![1, 32, 3, 1024]⟩
abbrev S1x32x1024 : Shape := ⟨3, ![1, 32, 1024]⟩
abbrev S32x512 : Shape := ⟨2, ![32, 512]⟩
abbrev S1x4x1024 : Shape := ⟨3, ![1, 4, 1024]⟩
abbrev S1x1024 : Shape := ⟨2, ![1, 1024]⟩
abbrev S1x16x64x64 : Shape := ⟨4, ![1, 16, 64, 64]⟩
abbrev S1x512x1024 : Shape := ⟨3, ![1, 512, 1024]⟩
abbrev S1x1024x1024 : Shape := ⟨3, ![1, 1024, 1024]⟩
abbrev S32x3x1024 : Shape := ⟨3, ![32, 3, 1024]⟩
abbrev S32x1x1024 : Shape := ⟨3, ![32, 1, 1024]⟩
abbrev S32x4x1024 : Shape := ⟨3, ![32, 4, 1024]⟩
abbrev S1024 : Shape := ⟨1, ![1024]⟩
abbrev S1x1x1024 : Shape := ⟨3, ![1, 1, 1024]⟩
abbrev S_ : Shape := ⟨0, ![]⟩
abbrev S16x64x64 : Shape := ⟨3, ![16, 64, 64]⟩
abbrev S32x1x16x64 : Shape := ⟨4, ![32, 1, 16, 64]⟩
abbrev S16x64x32x1 : Shape := ⟨4, ![16, 64, 32, 1]⟩
abbrev S512x1024 : Shape := ⟨2, ![512, 1024]⟩
abbrev S1024x1024 : Shape := ⟨2, ![1024, 1024]⟩
abbrev S32 : Shape := ⟨1, ![32]⟩
abbrev S32x1 : Shape := ⟨2, ![32, 1]⟩

abbrev nBuf : Space → Nat
  | .hbm => 204
  | .vmem => 0
  | .smem => 0
  | _ => 0

abbrev hbmTy0_0 (i : Nat) : BufTy := match i % 128 with
  | 0 => ⟨S32x1024, .f32⟩
  | 1 => ⟨S1x32x3x1024, .f32⟩
  | 2 => ⟨S1x32x1024, .f32⟩
  | 3 => ⟨S32x1024, .f32⟩
  | 4 => ⟨S32x1024, .f32⟩
  | 5 => ⟨S32x1024, .f32⟩
  | 6 => ⟨S32x512, .f32⟩
  | 7 => ⟨S32x1024, .f32⟩
  | 8 => ⟨S1x4x1024, .f32⟩
  | 9 => ⟨S1x1024, .f32⟩
  | 10 => ⟨S1x16x64x64, .f32⟩
  | 11 => ⟨S1x1024, .f32⟩
  | 12 => ⟨S1x16x64x64, .f32⟩
  | 13 => ⟨S1x1024, .f32⟩
  | 14 => ⟨S1x1024, .f32⟩
  | 15 => ⟨S1x512x1024, .f32⟩
  | 16 => ⟨S1x1024x1024, .f32⟩
  | 17 => ⟨S1x1024x1024, .f32⟩
  | 18 => ⟨S1x1024, .f32⟩
  | 19 => ⟨S1x1024, .f32⟩
  | 20 => ⟨S32x3x1024, .f32⟩
  | 21 => ⟨S32x1x1024, .f32⟩
  | 22 => ⟨S32x4x1024, .f32⟩
  | 23 => ⟨S1024, .f32⟩
  | 24 => ⟨S32x1x1024, .f32⟩
  | 25 => ⟨S1x1x1024, .f32⟩
  | 26 => ⟨S1024, .f32⟩
  | 27 => ⟨S1x1x1024, .f32⟩
  | 28 => ⟨S32x1x1024, .f32⟩
  | 29 => ⟨S32x1x1024, .f32⟩
  | 30 => ⟨S_, .f32⟩
  | 31 => ⟨S32x1x1024, .f32⟩
  | 32 => ⟨S32x1x1024, .f32⟩
  | 33 => ⟨S32x1x1024, .f32⟩
  | 34 => ⟨S1x1x1024, .f32⟩
  | 35 => ⟨S1024, .f32⟩
  | 36 => ⟨S1x1x1024, .f32⟩
  | 37 => ⟨S32x1x1024, .f32⟩
  | 38 => ⟨S32x1x1024, .f32⟩
  | 39 => ⟨S32x1x1024, .f32⟩
  | 40 => ⟨S32x1x1024, .f32⟩
  | 41 => ⟨S1x1x1024, .f32⟩
  | 42 => ⟨S1024, .f32⟩
  | 43 => ⟨S1x1x1024, .f32⟩
  | 44 => ⟨S32x1x1024, .f32⟩
  | 45 => ⟨S32x1x1024, .f32⟩
  | 46 => ⟨S32x1x1024, .f32⟩
  | 47 => ⟨S32x1x1024, .f32⟩
  | 48 => ⟨S1x1x1024, .f32⟩
  | 49 => ⟨S1024, .f32⟩
  | 50 => ⟨S1x1x1024, .f32⟩
  | 51 => ⟨S32x1x1024, .f32⟩
  | 52 => ⟨S32x1x1024, .f32⟩
  | 53 => ⟨S32x1x1024, .f32⟩
  | 54 => ⟨S1x1x1024, .f32⟩
  | 55 => ⟨S32x1x1024, .f32⟩
  | 56 => ⟨S32x1x1024, .f32⟩
  | 57 => ⟨S16x64x64, .f32⟩
  | 58 => ⟨S1024, .f32⟩
  | 59 => ⟨S16x64x64, .f32⟩
  | 60 => ⟨S1024, .f32⟩
  | 61 => ⟨S1024, .f32⟩
  | 62 => ⟨S32x1x16x64, .f32⟩
  | 63 => ⟨S16x64x32x1, .f32⟩
  | 64 => ⟨S32x1x16x64, .f32⟩
  | 65 => ⟨S32x1x1024, .f32⟩
  | 66 => ⟨S1x1x1024, .f32⟩
  | 67 => ⟨S32x1x1024, .f32⟩
  | 68 => ⟨S32x1x1024, .f32⟩
  | 69 => ⟨S32x1x1024, .f32⟩
  | 70 => ⟨S32x1x1024, .f32⟩
  | 71 => ⟨S_, .f32⟩
  | 72 => ⟨S32x1x1024, .f32⟩
  | 73 => ⟨S32x1x1024, .f32⟩
  | 74 => ⟨S_, .f32⟩
  | 75 => ⟨S32x1x1024, .f32⟩
  | 76 => ⟨S32x1x1024, .f32⟩
  | 77 => ⟨S16x64x32x1, .f32⟩
  | 78 => ⟨S32x1x16x64, .f32⟩
  | 79 => ⟨S32x1x1024, .f32⟩
  | 80 => ⟨S1x1x1024, .f32⟩
  | 81 => ⟨S32x1x1024, .f32⟩
  | 82 => ⟨S32x1x1024, .f32⟩
  | 83 => ⟨S32x1x1024, .f32⟩
  | 84 => ⟨S32x1x1024, .f32⟩
  | 85 => ⟨S_, .f32⟩
  | 86 => ⟨S32x1x1024, .f32⟩
  | 87 => ⟨S32x1x1024, .f32⟩
  | 88 => ⟨S_, .f32⟩
  | 89 => ⟨S32x1x1024, .f32⟩
  | 90 => ⟨S32x1x1024, .f32⟩
  | 91 => ⟨S_, .f32⟩
  | 92 => ⟨S32x1x1024, .f32⟩
  | 93 => ⟨S32x1x1024, .f32⟩
  | 94 => ⟨S1024, .f32⟩
  | 95 => ⟨S_, .f32⟩
  | 96 => ⟨S1024, .f32⟩
  | 97 => ⟨S1024, .f32⟩
  | 98 => ⟨S1024, .f32⟩
  | 99 => ⟨S1024, .f32⟩
  | 100 => ⟨S1024, .i1⟩
  | 101 => ⟨S1024, .f32⟩
  | 102 => ⟨S1024, .f32⟩
  | 103 => ⟨S1024, .f32⟩
  | 104 => ⟨S1024, .f32⟩
  | 105 => ⟨S1024, .f32⟩
  | 106 => ⟨S1024, .f32⟩
  | 107 => ⟨S1024, .f32⟩
  | 108 => ⟨S1024, .f32⟩
  | 109 => ⟨S1x1x1024, .f32⟩
  | 110 => ⟨S32x1x1024, .f32⟩
  | 111 => ⟨S32x1x1024, .f32⟩
  | 112 => ⟨S32x1x1024, .f32⟩
  | 113 => ⟨S_, .f32⟩
  | 114 => ⟨S32x1x1024, .f32⟩
  | 115 => ⟨S32x1x1024, .f32⟩
  | 116 => ⟨S32x1x1024, .f32⟩
  | 117 => ⟨S32x1x1024, .f32⟩
  | 118 => ⟨S32x1x1024, .f32⟩
  | 119 => ⟨S32x1x1024, .f32⟩
  | 120 => ⟨S32x1x1024, .f32⟩
  | 121 => ⟨S32x1024, .f32⟩
  | 122 => ⟨S32x1024, .f32⟩
  | 123 => ⟨S32x1024, .f32⟩
  | 124 => ⟨S32x1024, .f32⟩
  | 125 => ⟨S32x1024, .f32⟩
  | 126 => ⟨S512x1024, .f32⟩
  | 127 => ⟨S1024x1024, .f32⟩
  | _ => ⟨S32x1024, .f32⟩

abbrev hbmTy0_1 (i : Nat) : BufTy := match i % 128 with
  | 0 => ⟨S1024x1024, .f32⟩
  | 1 => ⟨S1024, .f32⟩
  | 2 => ⟨S1024, .f32⟩
  | 3 => ⟨S32x1024, .f32⟩
  | 4 => ⟨S32x1024, .f32⟩
  | 5 => ⟨S_, .f32⟩
  | 6 => ⟨S32x1024, .f32⟩
  | 7 => ⟨S32x1024, .f32⟩
  | 8 => ⟨S32x1024, .f32⟩
  | 9 => ⟨S_, .f32⟩
  | 10 => ⟨S32x1024, .f32⟩
  | 11 => ⟨S32x1024, .f32⟩
  | 12 => ⟨S32x1024, .f32⟩
  | 13 => ⟨S_, .f32⟩
  | 14 => ⟨S32x1024, .f32⟩
  | 15 => ⟨S32x1024, .f32⟩
  | 16 => ⟨S_, .f32⟩
  | 17 => ⟨S32x1024, .f32⟩
  | 18 => ⟨S32x1024, .f32⟩
  | 19 => ⟨S32x1024, .f32⟩
  | 20 => ⟨S32x1024, .f32⟩
  | 21 => ⟨S32x1024, .f32⟩
  | 22 => ⟨S32x1024, .f32⟩
  | 23 => ⟨S_, .f32⟩
  | 24 => ⟨S32x1024, .f32⟩
  | 25 => ⟨S32x1024, .f32⟩
  | 26 => ⟨S_, .f32⟩
  | 27 => ⟨S32x1024, .f32⟩
  | 28 => ⟨S32x1024, .f32⟩
  | 29 => ⟨S32x1024, .f32⟩
  | 30 => ⟨S32x1024, .f32⟩
  | 31 => ⟨S32x1024, .f32⟩
  | 32 => ⟨S32x1024, .f32⟩
  | 33 => ⟨S_, .f32⟩
  | 34 => ⟨S32x1024, .f32⟩
  | 35 => ⟨S32x1024, .f32⟩
  | 36 => ⟨S_, .f32⟩
  | 37 => ⟨S32x1024, .f32⟩
  | 38 => ⟨S32x1024, .f32⟩
  | 39 => ⟨S32x1024, .f32⟩
  | 40 => ⟨S32x1024, .f32⟩
  | 41 => ⟨S32x1024, .f32⟩
  | 42 => ⟨S_, .f32⟩
  | 43 => ⟨S32x1024, .f32⟩
  | 44 => ⟨S32x1024, .f32⟩
  | 45 => ⟨S32x1024, .f32⟩
  | 46 => ⟨S32x1024, .f32⟩
  | 47 => ⟨S_, .f32⟩
  | 48 => ⟨S32, .f32⟩
  | 49 => ⟨S32x1, .f32⟩
  | 50 => ⟨S_, .f32⟩
  | 51 => ⟨S32x1, .f32⟩
  | 52 => ⟨S32x1, .f32⟩
  | 53 => ⟨S32x1024, .f32⟩
  | 54 => ⟨S32x1024, .f32⟩
  | 55 => ⟨S32x1024, .f32⟩
  | 56 => ⟨S_, .f32⟩
  | 57 => ⟨S32, .f32⟩
  | 58 => ⟨S32x1, .f32⟩
  | 59 => ⟨S_, .f32⟩
  | 60 => ⟨S32x1, .f32⟩
  | 61 => ⟨S32x1, .f32⟩
  | 62 => ⟨S32x1024, .f32⟩
  | 63 => ⟨S32x1024, .f32⟩
  | 64 => ⟨S_, .f32⟩
  | 65 => ⟨S32x1, .f32⟩
  | 66 => ⟨S32x1, .f32⟩
  | 67 => ⟨S32x1, .f32⟩
  | 68 => ⟨S32x1024, .f32⟩
  | 69 => ⟨S32x1024, .f32⟩
  | 70 => ⟨S1x1024, .f32⟩
  | 71 => ⟨S32x1024, .f32⟩
  | 72 => ⟨S32x1024, .f32⟩
  | 73 => ⟨S1x1024, .f32⟩
  | 74 => ⟨S32x1024, .f32⟩
  | 75 => ⟨S32x1024, .f32⟩
  | _ => ⟨S32x1024, .f32⟩

abbrev hbmTy (i : Nat) : BufTy := match i / 128 with
  | 0 => hbmTy0_0 i
  | 1 => hbmTy0_1 i
  | _ => ⟨S32x1024, .f32⟩

abbrev bufTy : (tb : Table) → Fin (tcTables nBuf tb) → BufTy
  | .hbm, ⟨i, _⟩ => hbmTy i
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_0 : Ref sig .tc := ⟨.hbm, 71, rfl⟩
abbrev main_v50 : Ref sig .tc := ⟨.hbm, 72, rfl⟩
abbrev main_v51 : Ref sig .tc := ⟨.hbm, 73, rfl⟩
abbrev main_cst_1 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_2 : Ref sig .tc := ⟨.hbm, 85, rfl⟩
abbrev main_v62 : Ref sig .tc := ⟨.hbm, 86, rfl⟩
abbrev main_v63 : Ref sig .tc := ⟨.hbm, 87, rfl⟩
abbrev main_cst_3 : Ref sig .tc := ⟨.hbm, 88, rfl⟩
abbrev main_v64 : Ref sig .tc := ⟨.hbm, 89, rfl⟩
abbrev main_v65 : Ref sig .tc := ⟨.hbm, 90, rfl⟩
abbrev main_cst_4 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_call0_cst : Ref sig .tc := ⟨.hbm, 95, rfl⟩
abbrev main_call0_v0 : Ref sig .tc := ⟨.hbm, 96, rfl⟩
abbrev main_call0_v1 : Ref sig .tc := ⟨.hbm, 97, rfl⟩
abbrev main_call0_v2 : Ref sig .tc := ⟨.hbm, 98, rfl⟩
abbrev main_call0_v3 : Ref sig .tc := ⟨.hbm, 99, rfl⟩
abbrev main_call0_v4 : Ref sig .tc := ⟨.hbm, 100, rfl⟩
abbrev main_call0_v5 : Ref sig .tc := ⟨.hbm, 101, rfl⟩
abbrev main_call0_v6 : Ref sig .tc := ⟨.hbm, 102, rfl⟩
abbrev main_call0_v7 : Ref sig .tc := ⟨.hbm, 103, rfl⟩
abbrev main_call0_v8 : Ref sig .tc := ⟨.hbm, 104, rfl⟩
abbrev main_call0_v9 : Ref sig .tc := ⟨.hbm, 105, rfl⟩
abbrev main_call0_v10 : Ref sig .tc := ⟨.hbm, 106, rfl⟩
abbrev main_call0_v11 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_5 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_6 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_7 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_8 : Ref sig .tc := ⟨.hbm, 141, rfl⟩
abbrev main_v99 : Ref sig .tc := ⟨.hbm, 142, rfl⟩
abbrev main_v100 : Ref sig .tc := ⟨.hbm, 143, rfl⟩
abbrev main_cst_9 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_10 : Ref sig .tc := ⟨.hbm, 151, rfl⟩
abbrev main_v107 : Ref sig .tc := ⟨.hbm, 152, rfl⟩
abbrev main_v108 : Ref sig .tc := ⟨.hbm, 153, rfl⟩
abbrev main_cst_11 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_cst_12 : Ref sig .tc := ⟨.hbm, 161, rfl⟩
abbrev main_v115 : Ref sig .tc := ⟨.hbm, 162, rfl⟩
abbrev main_v116 : Ref sig .tc := ⟨.hbm, 163, rfl⟩
abbrev main_cst_13 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_cst_14 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_cst_15 : Ref sig .tc := ⟨.hbm, 175, rfl⟩
abbrev main_v126 : Ref sig .tc := ⟨.hbm, 176, rfl⟩
abbrev main_v127 : Ref sig .tc := ⟨.hbm, 177, rfl⟩
abbrev main_cst_16 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_cst_17 : Ref sig .tc := ⟨.hbm, 184, rfl⟩
abbrev main_v133 : Ref sig .tc := ⟨.hbm, 185, rfl⟩
abbrev main_v134 : Ref sig .tc := ⟨.hbm, 186, rfl⟩
abbrev main_cst_18 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_cst_19 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩

abbrev nD : Nat := 1
abbrev τ : Topo := Topo.v7x

variable {F : FTy → Type} [FloatOps F]
-- ==== Proof.Scalars.lean ====
/- The scalar identities between the kernels' formulas and the reference's, on the extended reals: the two
   forms of the sigmoid, of the decay and input scale of the recurrence, of softplus and of gelu. -/
module

public import Idealize.ShloMosaic.PureOps.Ideal
public import Idealize.ShloMosaic.PureOps.Ideal.Laws

@[expose] public section

noncomputable section

namespace Cert.Scalars

open Idealize.ShloMosaic

/-! ## The literals -/

/-- The f32 pattern of one half. -/
theorem half_eq : Ideal.ofBits .f32 0x3F000000#32 = ((1 / 2 : ℝ) : EReal) := by
  simp [Ideal.ofBits, Ideal.ieee, -EReal.coe_mul]; norm_num

/-- The f32 pattern of one. -/
theorem one_eq : Ideal.ofBits .f32 0x3F800000#32 = 1 := by
  simp [Ideal.ofBits, Ideal.ieee, -EReal.coe_mul]; norm_num

/-- The f32 pattern of two. -/
theorem two_eq : Ideal.ofBits .f32 0x40000000#32 = ((2 : ℝ) : EReal) := by
  simp [Ideal.ofBits, Ideal.ieee, -EReal.coe_mul]; norm_num

/-- The f32 pattern of minus one quarter. -/
theorem minusQuarter_eq : Ideal.ofBits .f32 0xBE800000#32 = ((-(1 / 4) : ℝ) : EReal) := by
  simp [Ideal.ofBits, Ideal.ieee, -EReal.coe_mul]; norm_num

/-- The f32 pattern of minus four. -/
theorem minusFour_eq : Ideal.ofBits .f32 0xC0800000#32 = ((-4 : ℝ) : EReal) := by
  simp [Ideal.ofBits, Ideal.ieee, -EReal.coe_mul]; norm_num

/-- The f32 pattern of minus eight. -/
theorem minusEight_eq : Ideal.ofBits .f32 0xC1000000#32 = ((-8 : ℝ) : EReal) := by
  simp [Ideal.ofBits, Ideal.ieee, -EReal.coe_mul]; norm_num

/-! ## Multiplication by a real that is not negative -/

/-- A finite factor that is not negative goes into a sum of two. -/
theorem mul_add' (c : EReal) (h0 : 0 ≤ c) (ht : c ≠ ⊤) (x y : EReal) : c * (x + y) = c * x + c * y :=
  EReal.left_distrib_of_nonneg_of_ne_top h0 ht x y

/-- A finite factor that is not negative goes into a finite sum. -/
theorem mul_sum' {ι : Type} (s : Finset ι) (c : EReal) (h0 : 0 ≤ c) (ht : c ≠ ⊤) (f : ι → EReal) :
    c * ∑ i ∈ s, f i = ∑ i ∈ s, c * f i := by
  classical
  induction s using Finset.induction_on with
  | empty => simp
  | insert a s ha ih => rw [Finset.sum_insert ha, Finset.sum_insert ha, mul_add' c h0 ht, ih]

/-- One half as an extended real. -/
abbrev half : EReal := ((1 / 2 : ℝ) : EReal)

theorem half_nonneg : (0 : EReal) ≤ half := by
  unfold half; exact_mod_cast (by norm_num : (0 : ℝ) ≤ 1 / 2)

theorem half_ne_top : half ≠ ⊤ := EReal.coe_ne_top _

/-! ## The sigmoid -/

/-- The logistic function, the reference's quotient. -/
def sigmoid (x : EReal) : EReal := Ideal.div 1 (1 + Ideal.exp (-x))

/-- The logistic function through the hyperbolic tangent of half the argument. -/
theorem sigmoid_eq (x : EReal) : sigmoid x = half * Ideal.tanh (half * x) + half := by
  unfold sigmoid half
  induction x using EReal.rec with
  | bot =>
    rw [EReal.coe_mul_bot_of_pos (by norm_num)]
    have h1 : Ideal.exp (-⊥) = ⊤ := rfl
    have h2 : Ideal.tanh ⊥ = ((-1 : ℝ) : EReal) := rfl
    have h3 : (1 : EReal) + ⊤ = ⊤ := rfl
    rw [h1, h2, h3, ← EReal.coe_mul, ← EReal.coe_add]
    simp [Ideal.div]
  | top =>
    rw [EReal.coe_mul_top_of_pos (by norm_num)]
    have h1 : Ideal.exp (-⊤) = 0 := rfl
    have h2 : Ideal.tanh ⊤ = ((1 : ℝ) : EReal) := rfl
    rw [h1, h2, ← EReal.coe_mul, ← EReal.coe_add]
    have h3 : (1 / 2 * 1 + 1 / 2 : ℝ) = 1 := by norm_num
    rw [h3]
    simp [Ideal.div]
  | coe r =>
    have h1 : Ideal.exp (-(r : EReal)) = ((Real.exp (-r) : ℝ) : EReal) := rfl
    have h2 : Ideal.tanh (((1 / 2 : ℝ) : EReal) * (r : EReal)) = ((Real.tanh (1 / 2 * r) : ℝ) : EReal) := rfl
    have hp : (0 : ℝ) < 1 + Real.exp (-r) := by positivity
    have h3 : (1 : EReal) + ((Real.exp (-r) : ℝ) : EReal) = ((1 + Real.exp (-r) : ℝ) : EReal) := by
      rw [EReal.coe_add, EReal.coe_one]
    rw [h1, h2, h3, Ideal.div, if_neg (by exact_mod_cast hp.ne'), one_mul, ← EReal.coe_inv, ← EReal.coe_mul,
      ← EReal.coe_add]
    congr 1
    rw [Real.tanh_eq_sinh_div_cosh, Real.sinh_eq, Real.cosh_eq]
    have he : Real.exp (1 / 2 * r) ≠ 0 := (Real.exp_pos _).ne'
    have e1 : Real.exp (-(1 / 2 * r)) = (Real.exp (1 / 2 * r))⁻¹ := Real.exp_neg _
    have e2 : Real.exp (-r) = (Real.exp (1 / 2 * r))⁻¹ * (Real.exp (1 / 2 * r))⁻¹ := by
      rw [← Real.exp_neg, ← Real.exp_add]; congr 1; ring
    rw [e1, e2]
    have hp' : Real.exp (1 / 2 * r) * Real.exp (1 / 2 * r) + 1 ≠ 0 := by positivity
    field_simp
    ring

/-- The same, the half in front of the sum. -/
theorem sigmoid_eq' (x : EReal) : sigmoid x = half * (1 + Ideal.tanh (half * x)) := by
  rw [sigmoid_eq, mul_add' _ half_nonneg half_ne_top, mul_one, add_comm]

/-- The hyperbolic tangent lies between minus one and one. -/
theorem tanh_bounds (x : EReal) : 0 ≤ 1 + Ideal.tanh x ∧ 1 + Ideal.tanh x ≠ ⊤ := by
  induction x using EReal.rec with
  | bot =>
    have h2 : Ideal.tanh ⊥ = ((-1 : ℝ) : EReal) := rfl
    rw [h2, ← EReal.coe_one, ← EReal.coe_add]
    exact ⟨by norm_num, EReal.coe_ne_top _⟩
  | top =>
    have h2 : Ideal.tanh ⊤ = ((1 : ℝ) : EReal) := rfl
    rw [h2, ← EReal.coe_one, ← EReal.coe_add]
    exact ⟨by exact_mod_cast (by norm_num : (0 : ℝ) ≤ 1 + 1), EReal.coe_ne_top _⟩
  | coe r =>
    have h2 : Ideal.tanh (r : EReal) = ((Real.tanh r : ℝ) : EReal) := rfl
    rw [h2, ← EReal.coe_one, ← EReal.coe_add]
    refine ⟨?_, EReal.coe_ne_top _⟩
    have : (-1 : ℝ) < Real.tanh r := by
      rw [Real.tanh_eq_sinh_div_cosh, lt_div_iff₀ (Real.cosh_pos r), Real.sinh_eq, Real.cosh_eq]
      have := Real.exp_pos r
      linarith
    exact_mod_cast (by linarith : (0 : ℝ) ≤ 1 + Real.tanh r)

end Cert.Scalars
-- ==== Proof.Layer.lean ====
/- The layer's parts as functions of their rows, on the extended reals: what the kernels and the reference are
   both shown to compute. -/
module

public import proofs.«01_k».proof.Proof.Scalars

@[expose] public section

noncomputable section

namespace Cert.Layer

open Idealize.ShloMosaic Cert.Scalars

/-- The layer norm of a row of 1024 numbers under a scale and a shift, at feature `l`. -/
def rowNorm (y g b : Fin 1024 → EReal) (l : Fin 1024) : EReal :=
  let mu := Ideal.div (∑ k, y k) (Ideal.ofBits .f32 0x44800000#32)
  let var := Ideal.div (∑ k, (y k - mu) * (y k - mu)) (Ideal.ofBits .f32 0x44800000#32)
  (y l - mu) * Ideal.rsqrt (var + Ideal.ofBits .f32 0x3727C5AC#32) * g l + b l

/-- The residual plus half the gated feed-forward of a row, at feature `l`. -/
def ffnRow (x : Fin 1024 → EReal) (wg wu : Fin 1024 → Fin 2816 → EReal) (wd : Fin 2816 → Fin 1024 → EReal)
    (l : Fin 1024) : EReal :=
  Ideal.ofBits .f32 0x3F9837F0#32 * x l
    + half * ∑ j, ((∑ k, x k * wg k j) * sigmoid (∑ k, x k * wg k j)) * (∑ k, x k * wu k j) * wd j l

/-- The feed-forward half step on the tokens of 16 sequences laid out as 32768 rows. -/
def ffnOut (x : Fin 16 → Fin 2048 → Fin 1024 → EReal) (wg wu : Fin 1024 → Fin 2816 → EReal)
    (wd : Fin 2816 → Fin 1024 → EReal) (g b : Fin 1024 → EReal) (r : Fin 32768) (l : Fin 1024) : EReal :=
  rowNorm (ffnRow (x ⟨r.val / 2048, by omega⟩ ⟨r.val % 2048, by omega⟩) wg wu wd) g b l

/-- The angle by which position `s` turns the pair of features of frequency `f` of 32. -/
def angle (s f : ℕ) : EReal :=
  FloatOps.sitofp (F := Ideal) FTy.f32 (BitVec.ofNat 32 s) *
    Ideal.pow (Ideal.ofBits .f32 0x461C4000#32)
      (Ideal.div (-FloatOps.sitofp (F := Ideal) FTy.f32 (BitVec.ofNat 32 f)) (Ideal.ofBits .f32 0x42000000#32))

/-- The rotary embedding of the pair (`lo`, `hi`) at position `s`, read at feature `l` of 64: the first half of the
   features holds the turned first entries, the second half the turned second ones. -/
def rotated (lo hi : EReal) (s l : ℕ) : EReal :=
  if l % 64 < 32 then lo * Ideal.cos (angle s (l % 32)) - hi * Ideal.sin (angle s (l % 32))
  else hi * Ideal.cos (angle s (l % 32)) + lo * Ideal.sin (angle s (l % 32))

/-- A pair turned at a feature of 64 is the pair turned at the same feature counted over all heads. -/
theorem rotated_mod (lo hi : EReal) (s l : ℕ) : rotated lo hi s (l % 64) = rotated lo hi s l := by
  unfold rotated
  rw [Nat.mod_mod, show l % 64 % 32 = l % 32 by omega]

/-- Feature `l` of the heads that begin at column `o` of a projected token, turned at position `s`. -/
def turned (x : Fin 5400 → EReal) (o : Fin 4889) (s : ℕ) (l : Fin 512) : EReal :=
  rotated (x ⟨o.val + (l.val / 64 * 64 + l.val % 32), by omega⟩)
    (x ⟨o.val + (l.val / 64 * 64 + l.val % 32) + 32, by omega⟩) s l.val

/-- Feature `l` of a branch's keys and values: the keys turned, the values as they are. -/
def keyValue (x : Fin 5400 → EReal) (o : Fin 4889) (s : ℕ) (l : Fin 256) : EReal :=
  if l.val < 128 then turned x o s ⟨l.val, by omega⟩ else x ⟨o.val + l.val, by omega⟩

/-- Column `l` of the gates: the logistic function of the 24 projected gates, followed by that of zeros. -/
def gate (x : Fin 5400 → EReal) (l : Fin 128) : EReal :=
  sigmoid (if h : l.val < 24 then x ⟨1280 + l.val, by omega⟩ else 0)

end Cert.Layer
-- ==== Proof.FfnBlock.lean ====
/- One block of the feed-forward kernel: row `r` of what a grid point stores is the layer norm of the residual
   plus half the gated feed-forward of row `r` of its block. -/
module

public import proofs.«01_k».proof.Proof.Gen.FfnIdeal.Value
public import proofs.«01_k».proof.Proof.Layer
public import Idealize.ShloMosaic.Lib.Pipeline.ValueKit

@[expose] public section

set_option maxRecDepth 16384

noncomputable section

namespace Cert.FfnIdeal.Block

open Cert.FfnIdeal Cert.FfnIdeal.Gen Idealize.ShloMosaic Idealize.SL.Sem Idealize.ShloMosaic.Pointwise
open Cert.Layer Cert.Scalars

variable (P0 : Vec Ideal S512x1024 .f32) (P1 P2 : Vec Ideal S1024x2816 .bf16) (P3 : Vec Ideal S2816x1024 .bf16)
  (P4 P5 : Vec Ideal S1x1024 .f32)

/-- The residual row before the layer norm. -/
theorem resid_at (r : Fin 512) (l : Fin 1024) :
    k0_pay4 P0 P1 P2 P3 (ix2 r l) = ffnRow (fun k => P0 (ix2 r k)) (fun k j => P1 (ix2 k j))
      (fun k j => P2 (ix2 k j)) (fun j k => P3 (ix2 j k)) l
      - Ideal.div (∑ i, ffnRow (fun k => P0 (ix2 r k)) (fun k j => P1 (ix2 k j))
      (fun k j => P2 (ix2 k j)) (fun j k => P3 (ix2 j k)) i) (Ideal.ofBits .f32 0x44800000#32) := by
  simp only [ffnRow, sigmoid_eq, ← half_eq]
  pointwise [k0_pay4]

/-- The stored row. -/
theorem out_at (r : Fin 512) (l : Fin 1024) :
    out0_6 P0 P1 P2 P3 P4 P5 (ix2 r l)
      = rowNorm (ffnRow (fun k => P0 (ix2 r k)) (fun k j => P1 (ix2 k j)) (fun k j => P2 (ix2 k j))
          (fun j k => P3 (ix2 j k))) (fun k => P4 (ix2 0 k)) (fun k => P5 (ix2 0 k)) l := by
  frame_out
  unfold rowNorm
  simp only [← resid_at P0 P1 P2 P3]
  generalize k0_pay4 P0 P1 P2 P3 = y
  pointwise [k0_pay1, k0_pay2, k0_pay3]

end Cert.FfnIdeal.Block
-- ==== Proof.FfnArray.lean ====
/- The feed-forward kernel's result array at an index, as a function of the argument arrays: every row of the
   tokens goes to the same row of the result. -/
module

public import proofs.«01_k».proof.Proof.FfnBlock

@[expose] public section

set_option maxRecDepth 16384

noncomputable section

namespace Cert.FfnIdeal.Array

open Cert.FfnIdeal Cert.FfnIdeal.Gen Idealize.ShloMosaic Idealize.ShloMosaic.TcCoe Idealize.SL.Sem
open Idealize.ShloMosaic.Pointwise Cert.Layer Cert.Scalars

variable (m : (ℓ : Loc nD τ sig) → Buf (Elt Ideal) ℓ)

/-- Where each window's block lies. -/
theorem idx : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] := by
  decide +kernel

/-- The result array, row by row. -/
def G (c : Dev nD) : Buf (Elt Ideal) ((c : Thread nD τ).loc main_v11) := fun i : S32768x1024.Idx =>
  ffnOut (fun b s k => m ((c : Thread nD τ).loc main_arg0) (ix3 b s k))
    (fun k j => m ((c : Thread nD τ).loc main_arg1) (ix3 0 k j))
    (fun k j => m ((c : Thread nD τ).loc main_arg2) (ix3 0 k j))
    (fun j k => m ((c : Thread nD τ).loc main_arg3) (ix3 0 j k))
    (fun k => m ((c : Thread nD τ).loc main_arg4) (ix2 0 k))
    (fun k => m ((c : Thread nD τ).loc main_arg5) (ix2 0 k)) (i 0) (i 1)

/-- Row `r`, feature `l` of what grid point `t` writes is the result array's row `512 t + r`. -/
theorem point (c : Dev nD) (t : Fin cfg0.N) (r : Fin 512) (l : Fin 1024) (hr : t.val * 512 + r.val < 32768) :
    out0_6 (iblk m c 0 t) (iblk m c 1 t) (iblk m c 2 t) (iblk m c 3 t) (iblk m c 4 t) (iblk m c 5 t) (ix2 r l)
      = G m c (ix2 ⟨t.val * 512 + r.val, hr⟩ l) := by
  rw [Block.out_at]
  unfold G ffnOut
  blk_point [iblk, V, idx t]

/-- The kernel's result array. -/
theorem final (c : Dev nD) : (dats m 0 c).arrAt 6 cfg0.N = G m c := by
  refine (dats m 0 c).arrAt_eq_of_covers 6 _ (by decide +kernel) fun t hf y => ?_
  blk_simp
  rw [after0_6]
  have h0 : (y 0).val < 512 := (y 0).isLt
  have ht : t.val < 64 := t.isLt
  have hy : y = ix2 (n0 := 512) (n1 := 1024) (y 0) (y 1) := eq_ix2 (n0 := 512) (n1 := 1024) y
  have hp := point m c t (y 0) (y 1) (by omega)
  refine (congrArg _ hy).trans (hp.trans (congrArg _ ?_))
  blk_ext [idx t]

end Cert.FfnIdeal.Array
-- ==== Proof.FfnRead.lean ====
/- The feed-forward reference at an index: row `r`, feature `l` of its result is the layer norm of the residual
   plus half the gated feed-forward of row `r` of the tokens. -/
module

public import proofs.«01_k».proof.Proof.Gen.FfnRefIdeal.Run
public import proofs.«01_k».proof.Proof.Gen.FfnRefIdeal.Read
public import proofs.«01_k».proof.Proof.Layer
public import Idealize.ShloMosaic.Lib.Pointwise

@[expose] public section

set_option maxRecDepth 16384

noncomputable section

namespace Cert.FfnRefIdeal.Rows

open Cert.FfnRefIdeal Cert.FfnRefIdeal.Gen Cert.FfnRefIdeal.Read Idealize.ShloMosaic Idealize.SL.Sem
open Idealize.ShloMosaic.Pointwise Cert.Layer Cert.Scalars

variable (x0 : (⟨S16x2048x1024, .f32⟩ : BufTy).Contents (Elt Ideal))
  (x1 x2 : (⟨S1x1024x2816, .f32⟩ : BufTy).Contents (Elt Ideal)) (x3 : (⟨S1x2816x1024, .f32⟩ : BufTy).Contents (Elt Ideal))
  (x4 x5 : (⟨S1x1024, .f32⟩ : BufTy).Contents (Elt Ideal))

/-- The residual row before the layer norm. -/
theorem resid_at (r : Fin 32768) (l : Fin 1024) :
    val_main_v13 x0 x1 x2 x3 (ix2 r l)
      = ffnRow (fun k => x0 (ix3 ⟨r.val / 2048, by omega⟩ ⟨r.val % 2048, by omega⟩ k)) (fun k j => x1 (ix3 0 k j))
          (fun k j => x2 (ix3 0 k j)) (fun j k => x3 (ix3 0 j k)) l := by
  simp only [ffnRow, sigmoid, ← half_eq, ← one_eq]
  pointwise [val_main_v13, val_main_v12, val_main_v11, val_main_v10, val_main_v9, val_main_v8, val_main_v7,
    val_main_v6, val_main_v5, val_main_v4, val_main_v3, val_main_v2, val_main_v1, val_main_v0, val_main_call0_v0,
    val_main_call0_v1, val_main_call0_v2, val_main_call0_v3, val_main_call0_v4, val_main_call0_v5,
    val_main_call0_cst, val_main_call0_cst_0, val_main_cst, val_main_cst_0]

/-- The reference's result row. -/
theorem out_at (r : Fin 32768) (l : Fin 1024) :
    val_main_v39 x0 x1 x2 x3 x4 x5 (ix2 r l)
      = ffnOut (fun b s k => x0 (ix3 b s k)) (fun k j => x1 (ix3 0 k j)) (fun k j => x2 (ix3 0 k j))
          (fun j k => x3 (ix3 0 j k)) (fun k => x4 (ix2 0 k)) (fun k => x5 (ix2 0 k)) r l := by
  unfold ffnOut rowNorm
  simp only [← resid_at x0 x1 x2 x3]
  pointwise [val_main_v39, val_main_v38, val_main_v37, val_main_v36, val_main_v35, val_main_v34, val_main_v33,
    val_main_v32, val_main_v31, val_main_v30, val_main_v29, val_main_v28, val_main_v27, val_main_v26, val_main_v25,
    val_main_v24, val_main_v23, val_main_v22, val_main_v21, val_main_v20, val_main_v19, val_main_v18, val_main_v17,
    val_main_v16, val_main_v15, val_main_v14, val_main_cst_1, val_main_cst_2, val_main_cst_3, val_main_cst_4,
    val_main_cst_5]

end Cert.FfnRefIdeal.Rows
-- ==== Proof.FfnClaim.lean ====
/- The claims about the feed-forward half step: both programs leave the arguments alone, and on the extended reals
   the kernel's result array is the reference's. -/
module

public import proofs.«01_k».proof.Defs
public import proofs.«01_k».proof.Proof.FfnArray
public import proofs.«01_k».proof.Proof.FfnRead
public import proofs.«01_k».proof.Proof.Gen.Ffn.Frame

@[expose] public section

set_option maxRecDepth 16384

noncomputable section

namespace Cert.Proof.Ffn

open Idealize.ShloMosaic Idealize.SL.Sem Idealize.ShloMosaic.Pointwise

/-- The kernel's result is the reference's. -/
theorem algebraic : Cert.algebraic_FfnIdeal_FfnRefIdeal := by
  pair_intro
  · run_from Cert.FfnIdeal.Gen.run_main m g
  · run_from Cert.FfnRefIdeal.Value.run m' g'
    have h := hagree c
    rw [Cert.FfnRefIdeal.Read.val_main_v39_eq, h.1, h.2.1, h.2.2.1, h.2.2.2.1, h.2.2.2.2.1, h.2.2.2.2.2]
    refine Eq.trans ?_ (Cert.FfnIdeal.Array.final m c).symm
    funext i
    rw [eq_ix2 (n0 := 32768) (n1 := 1024) i]
    exact Cert.FfnRefIdeal.Rows.out_at _ _ _ _ _ _ _ _

/-- The kernel leaves its arguments alone. -/
theorem frame : Cert.quiescent_Ffn := fun m ρ _ => Cert.Ffn.Gen.frame m ρ

/-- So does the kernel on the extended reals. -/
theorem frameIdeal : Cert.quiescent_FfnIdeal := fun m ρ _ => Cert.FfnIdeal.Gen.frame m ρ

/-- So does the reference. -/
theorem frameRef : Cert.quiescent_FfnRefIdeal := fun m g _ =>
  θ_run_mono (Cert.FfnRefIdeal.Value.run m g) fun r h =>
    ⟨fun c => (h c).2, sem_eq_zero_of_no_sems (by decide) r.2⟩

/-- Nothing was rewritten. -/
theorem preserves : Cert.preserves_Ffn_FfnIdeal := trivial

end Cert.Proof.Ffn
-- ==== Proof.InBlock.lean ====
/- One block of the input projection's kernel, result by result. -/
module

public import proofs.«01_k».proof.Proof.Gen.InIdeal.Value
public import proofs.«01_k».proof.Proof.Layer
public import Idealize.ShloMosaic.Lib.Pipeline.ValueKit

@[expose] public section

set_option maxRecDepth 16384

noncomputable section

namespace Cert.InIdeal.Block

open Cert.InIdeal Cert.InIdeal.Gen Idealize.ShloMosaic Idealize.SL.Sem Idealize.ShloMosaic.Pointwise
open Cert.Layer Cert.Scalars

variable (P0 : Vec Ideal S256x1024 .f32) (P1 P2 : Vec Ideal S256x128 .f32) (P3 : Vec Ideal S1024x1408 .bf16)
  (P4 : Vec Ideal S1024x4096 .bf16)

/-- The two products. -/
def za (r : Fin 256) (j : Fin 1408) : EReal := ∑ k, P0 (ix2 r k) * P3 (ix2 k j)
def zb (r : Fin 256) (j : Fin 4096) : EReal := ∑ k, P0 (ix2 r k) * P4 (ix2 k j)

theorem whole0 : View.ld P0 r0_0 = P0 := by
  funext i
  rw [eq_ix2 (n0 := 256) (n1 := 1024) i]
  pointwise

theorem whole1 : View.ld P1 r0_1 = P1 := by
  funext i
  rw [eq_ix2 (n0 := 256) (n1 := 128) i]
  pointwise

theorem whole3 : View.ld P3 r0_2 = P3 := by
  funext i
  rw [eq_ix2 (n0 := 1024) (n1 := 1408) i]
  pointwise

theorem za_at (r : Fin 256) (j : Fin 1408) : k0_pay13 P0 P3 (ix2 r j) = za P0 P3 r j := by
  unfold za
  pointwise [k0_pay13, k0_pay10]

theorem zb_at (r : Fin 256) (j : Fin 4096) : k0_pay5 (k0_pay10 P0) P4 (ix2 r j) = zb P0 P4 r j := by
  unfold zb
  pointwise [k0_pay5, k0_pay10]

/-- The kernel's test for the first half of a head's features. -/
theorem mask : ∀ l : Fin 512, IntOp.cmpi CmpIPredicate.slt
            (Scalar.select
              (IntOp.andi
                (IntOp.xori (IntOp.cmpi CmpIPredicate.slt (IntOp.remsi ArithUnit.vector (BitVec.ofNat 32 l.val)
                  (Scalar.select (Scalar.cmpi CmpIPredicate.eq 64#32 0#32) 1#32 64#32)) 0#32)
                  (Scalar.cmpi CmpIPredicate.slt (Scalar.select (Scalar.cmpi CmpIPredicate.eq 64#32 0#32) 1#32 64#32) 0#32))
                (IntOp.cmpi CmpIPredicate.ne (IntOp.remsi ArithUnit.vector (BitVec.ofNat 32 l.val)
                  (Scalar.select (Scalar.cmpi CmpIPredicate.eq 64#32 0#32) 1#32 64#32)) 0#32))
              (IntOp.addi (IntOp.remsi ArithUnit.vector (BitVec.ofNat 32 l.val)
                  (Scalar.select (Scalar.cmpi CmpIPredicate.eq 64#32 0#32) 1#32 64#32)) (Scalar.select (Scalar.cmpi CmpIPredicate.eq 64#32 0#32) 1#32 64#32))
              (IntOp.remsi ArithUnit.vector (BitVec.ofNat 32 l.val)
                  (Scalar.select (Scalar.cmpi CmpIPredicate.eq 64#32 0#32) 1#32 64#32)))
            32#32
    = if l.val % 64 < 32 then 1#1 else 0#1 := by decide +kernel

theorem select_ite {p : Prop} [Decidable p] (a b : EReal) :
    Scalar.select (if p then 1#1 else 0#1) a b = if p then a else b := by
  by_cases h : p
  · rw [if_pos h, if_pos h]; rfl
  · rw [if_neg h, if_neg h]; rfl

/-- The feature a feature is turned with. -/
def partner (l : ℕ) : ℕ := if l % 64 < 32 then l + 32 else l - 32

theorem partner_lt (l n : ℕ) (h : l < n) (hn : n % 64 = 0) : partner l < n := by
  unfold partner
  split <;> omega

/-- Four copies of a table side by side. -/
theorem four (f : Fin 128 → EReal) (l : Fin 512) :
    (if h : l.val < 128 then f ⟨l.val, h⟩
      else if h : l.val - 128 < 128 then f ⟨l.val - 128, h⟩
      else if h : l.val - 128 - 128 < 128 then f ⟨l.val - 128 - 128, h⟩
      else f ⟨l.val - 128 - 128 - 128, by omega⟩) = f ⟨l.val % 128, by omega⟩ := by
  split_ifs <;> exact congrArg f (Fin.ext (by dsimp; omega))

theorem out5_at (r l : Fin 256) : out0_5 P0 P1 P2 P3 P4 (ix2 r l) = za P0 P3 r ⟨512 + l.val, by omega⟩ := by
  frame_out
  simp only [k0_pay36, k0_pay37, k0_pay38, k0_pay39, k0_pay40, k0_pay41, k0_pay42, k0_pay43, k0_pay44, k0_pay45, k0_pay46,
    whole0, whole1, whole3]
  rw [← za_at]
  pointwise [k0_pay22, k0_pay15]

/-- A turned key of the selection branch. -/
theorem sel_at (r : Fin 256) (l : Fin 128) : k0_pay23 (k0_pay11 P1) (k0_pay12 P2) (k0_pay15 P0 P3) (ix2 r l)
    = za P0 P3 r ⟨768 + l.val, by omega⟩ * P1 (ix2 r ⟨l.val, by omega⟩)
      + za P0 P3 r ⟨768 + partner l.val, by have := partner_lt l.val 128 (by omega) (by omega); omega⟩ * P2 (ix2 r ⟨l.val, by omega⟩) := by
  pointwise [k0_pay28, k0_pay27, k0_pay26, k0_pay25, k0_pay24, k0_pay23, k0_pay15, k0_pay11, k0_pay12, za_at]
  rw [mask ⟨l.val, by omega⟩, select_ite]
  refine congrArg₂ _ (congrArg₂ _ (congrArg _ (Fin.ext (by dsimp; omega))) rfl) (congrArg₂ _ ?_ rfl)
  unfold partner
  split <;> rename_i h <;> (try dsimp only at h) <;> exact congrArg _ (Fin.ext (by dsimp; omega))

/-- A turned key of the window branch. -/
theorem win_at (r : Fin 256) (l : Fin 128) :
    k0_pay28 (k0_pay11 P1) (k0_pay12 P2) (k0_pay24 (k0_pay15 P0 P3)) (Scalar.select (Scalar.cmpi .eq 64#32 0#32) 1#32 64#32)
      k0_pay25 k0_pay26 k0_pay27 (ix2 r l)
    = za P0 P3 r ⟨1024 + l.val, by omega⟩ * P1 (ix2 r ⟨l.val, by omega⟩)
      + za P0 P3 r ⟨1024 + partner l.val, by have := partner_lt l.val 128 (by omega) (by omega); omega⟩ * P2 (ix2 r ⟨l.val, by omega⟩) := by
  pointwise [k0_pay28, k0_pay27, k0_pay26, k0_pay25, k0_pay24, k0_pay23, k0_pay15, k0_pay11, k0_pay12, za_at]
  rw [mask ⟨l.val, by omega⟩, select_ite]
  refine congrArg₂ _ (congrArg₂ _ (congrArg _ (Fin.ext (by dsimp; omega))) rfl) (congrArg₂ _ ?_ rfl)
  unfold partner
  split <;> rename_i h <;> (try dsimp only at h) <;> exact congrArg _ (Fin.ext (by dsimp; omega))

theorem out6_at (r : Fin 256) (l : Fin 128) : out0_6 P0 P1 P2 P3 P4 (ix2 r l)
    = za P0 P3 r ⟨768 + l.val, by omega⟩ * P1 (ix2 r ⟨l.val, by omega⟩)
      + za P0 P3 r ⟨768 + partner l.val, by have := partner_lt l.val 128 (by omega) (by omega); omega⟩ * P2 (ix2 r ⟨l.val, by omega⟩) := by
  rw [← sel_at]
  frame_out
  simp only [k0_pay36, k0_pay37, k0_pay38, k0_pay39, k0_pay40, k0_pay41, k0_pay42, k0_pay43, k0_pay44, k0_pay45, k0_pay46,
    whole0, whole1, whole3]
  pointwise [k0_pay31]

theorem out7_at (r : Fin 256) (l : Fin 128) : out0_7 P0 P1 P2 P3 P4 (ix2 r l)
    = za P0 P3 r ⟨1024 + l.val, by omega⟩ * P1 (ix2 r ⟨l.val, by omega⟩)
      + za P0 P3 r ⟨1024 + partner l.val, by have := partner_lt l.val 128 (by omega) (by omega); omega⟩ * P2 (ix2 r ⟨l.val, by omega⟩) := by
  rw [← win_at]
  frame_out
  simp only [k0_pay36, k0_pay37, k0_pay38, k0_pay39, k0_pay40, k0_pay41, k0_pay42, k0_pay43, k0_pay44, k0_pay45, k0_pay46,
    whole0, whole1, whole3]
  pointwise [k0_pay32]

theorem out8_at (r : Fin 256) (l : Fin 1024) :
    out0_8 P0 P1 P2 P3 P4 (ix2 r l) = zb P0 P4 r ⟨0 + l.val, by omega⟩ := by
  frame_out
  simp only [k0_pay36, k0_pay37, k0_pay38, k0_pay39, k0_pay40, k0_pay41, k0_pay42, k0_pay43, k0_pay44, k0_pay45, k0_pay46,
    whole0, whole1, whole3]
  rw [← zb_at]
  pointwise [k0_pay6]

theorem out9_at (r : Fin 256) (l : Fin 1024) :
    out0_9 P0 P1 P2 P3 P4 (ix2 r l) = zb P0 P4 r ⟨1024 + l.val, by omega⟩ := by
  frame_out
  simp only [k0_pay36, k0_pay37, k0_pay38, k0_pay39, k0_pay40, k0_pay41, k0_pay42, k0_pay43, k0_pay44, k0_pay45, k0_pay46,
    whole0, whole1, whole3]
  rw [← zb_at]
  pointwise [k0_pay7]

theorem out10_at (r : Fin 256) (l : Fin 1024) :
    out0_10 P0 P1 P2 P3 P4 (ix2 r l) = zb P0 P4 r ⟨2048 + l.val, by omega⟩ := by
  frame_out
  simp only [k0_pay36, k0_pay37, k0_pay38, k0_pay39, k0_pay40, k0_pay41, k0_pay42, k0_pay43, k0_pay44, k0_pay45, k0_pay46,
    whole0, whole1, whole3]
  rw [← zb_at]
  pointwise [k0_pay8]

theorem out11_at (r : Fin 256) (l : Fin 1024) :
    out0_11 P0 P1 P2 P3 P4 (ix2 r l) = zb P0 P4 r ⟨3072 + l.val, by omega⟩ := by
  frame_out
  simp only [k0_pay36, k0_pay37, k0_pay38, k0_pay39, k0_pay40, k0_pay41, k0_pay42, k0_pay43, k0_pay44, k0_pay45, k0_pay46,
    whole0, whole1, whole3]
  rw [← zb_at]
  pointwise [k0_pay9]

theorem out12_at (l : Fin 512) (r : Fin 256) :
    out0_12 P0 P1 P2 P3 P4 (ix3 0 l r) = za P0 P3 r ⟨l.val, by omega⟩ := by
  frame_out
  simp only [k0_pay36, k0_pay37, k0_pay38, k0_pay39, k0_pay40, k0_pay41, k0_pay42, k0_pay43, k0_pay44, k0_pay45, k0_pay46,
    whole0, whole1, whole3]
  rw [← za_at]
  pointwise [k0_pay33, k0_pay14]

theorem out13_at (l : Fin 512) (r : Fin 256) : out0_13 P0 P1 P2 P3 P4 (ix3 0 l r)
    = za P0 P3 r ⟨l.val, by omega⟩ * P1 (ix2 r ⟨l.val % 128, by omega⟩)
      + za P0 P3 r ⟨partner l.val, by have := partner_lt l.val 512 (by omega) (by omega); omega⟩
        * P2 (ix2 r ⟨l.val % 128, by omega⟩) := by
  frame_out
  simp only [k0_pay36, k0_pay37, k0_pay38, k0_pay39, k0_pay40, k0_pay41, k0_pay42, k0_pay43, k0_pay44, k0_pay45, k0_pay46,
    whole0, whole1, whole3]
  pointwise [k0_pay34, k0_pay21, k0_pay20, k0_pay19, k0_pay18, k0_pay17, k0_pay14, k0_pay11, k0_pay12, za_at]
  rw [four (fun j => P1 (ix2 r j)) l, four (fun j => P2 (ix2 r j)) l, mask l, select_ite]
  refine congrArg₂ _ rfl (congrArg₂ _ ?_ rfl)
  unfold partner
  split <;> rename_i h <;> (try dsimp only at h) <;> exact congrArg _ (Fin.ext (by dsimp; omega))

theorem out14_at (l : Fin 128) (r : Fin 256) :
    out0_14 P0 P1 P2 P3 P4 (ix3 0 l r) = sigmoid (za P0 P3 r ⟨1280 + l.val, by omega⟩) := by
  rw [sigmoid_eq]
  unfold half
  rw [← half_eq]
  frame_out
  pointwise [k0_pay1, k0_pay35, k0_pay16, za_at]

theorem out15_at (l : Fin 256) (r : Fin 256) :
    out0_15 P0 P1 P2 P3 P4 (ix3 0 l r) = za P0 P3 r ⟨512 + l.val, by omega⟩ := by
  frame_out
  simp only [k0_pay40, k0_pay41, whole0, whole3]
  rw [← za_at]
  pointwise [k0_pay2, k0_pay22, k0_pay15]

theorem out16_at (l : Fin 256) (r : Fin 256) : out0_16 P0 P1 P2 P3 P4 (ix3 0 l r)
    = if h : l.val < 128 then k0_pay23 (k0_pay11 P1) (k0_pay12 P2) (k0_pay15 P0 P3) (ix2 r ⟨l.val, h⟩)
      else za P0 P3 r ⟨768 + l.val, by omega⟩ := by
  frame_out
  simp only [k0_pay36, k0_pay37, k0_pay38, k0_pay39, k0_pay40, k0_pay41, k0_pay42, k0_pay43, k0_pay44, k0_pay45, k0_pay46,
    whole0, whole1, whole3]
  by_cases h : l.val < 128
  · rw [dif_pos h]
    pointwise [k0_pay3, k0_pay29]
    rw [dif_pos h]
  · rw [dif_neg h, ← za_at]
    pointwise [k0_pay3, k0_pay29, k0_pay15]
    rw [dif_neg h]
    exact congrArg _ (congrArg _ (Fin.ext (by dsimp; omega)))

theorem out17_at (l : Fin 256) (r : Fin 256) : out0_17 P0 P1 P2 P3 P4 (ix3 0 l r)
    = if h : l.val < 128 then k0_pay28 (k0_pay11 P1) (k0_pay12 P2) (k0_pay24 (k0_pay15 P0 P3))
        (Scalar.select (Scalar.cmpi .eq 64#32 0#32) 1#32 64#32) k0_pay25 k0_pay26 k0_pay27 (ix2 r ⟨l.val, h⟩)
      else za P0 P3 r ⟨1024 + l.val, by omega⟩ := by
  frame_out
  simp only [k0_pay36, k0_pay37, k0_pay38, k0_pay39, k0_pay40, k0_pay41, k0_pay42, k0_pay43, k0_pay44, k0_pay45, k0_pay46,
    whole0, whole1, whole3]
  by_cases h : l.val < 128
  · rw [dif_pos h]
    pointwise [k0_pay4, k0_pay30]
    rw [dif_pos h]
  · rw [dif_neg h, ← za_at]
    pointwise [k0_pay4, k0_pay30, k0_pay15]
    rw [dif_neg h]
    exact congrArg _ (congrArg _ (Fin.ext (by dsimp; omega)))

end Cert.InIdeal.Block
-- ==== Proof.InArray.lean ====
/- The input projection's result arrays at an index, as functions of the argument arrays. -/
module

public import proofs.«01_k».proof.Proof.InBlock
public import Idealize.ShloMosaic.Lib.StableHlo.ReadAt

@[expose] public section

set_option maxRecDepth 16384

noncomputable section

namespace Cert.InIdeal.Array

open Cert.InIdeal Cert.InIdeal.Gen Idealize.ShloMosaic Idealize.ShloMosaic.TcCoe Idealize.SL.Sem
open Idealize.ShloMosaic.Pointwise Cert.Layer Cert.Scalars

variable (m : (ℓ : Loc nD τ sig) → Buf (Elt Ideal) ℓ)

/-- Where each window's block lies. -/
theorem idx : ∀ t : Fin grid0.N, win0_0.index t = ![t.val, 0] ∧ win0_1.index t = ![t.val % 8, 0]
    ∧ win0_2.index t = ![t.val % 8, 0] ∧ win0_3.index t = ![0, 0] ∧ win0_4.index t = ![0, 0]
    ∧ win0_5.index t = ![t.val, 0] ∧ win0_6.index t = ![t.val, 0] ∧ win0_7.index t = ![t.val, 0]
    ∧ win0_8.index t = ![t.val, 0] ∧ win0_9.index t = ![t.val, 0] ∧ win0_10.index t = ![t.val, 0]
    ∧ win0_11.index t = ![t.val, 0] ∧ win0_12.index t = ![t.val / 8, 0, t.val % 8]
    ∧ win0_13.index t = ![t.val / 8, 0, t.val % 8] ∧ win0_14.index t = ![t.val / 8, 0, t.val % 8]
    ∧ win0_15.index t = ![t.val / 8, 0, t.val % 8] ∧ win0_16.index t = ![t.val / 8, 0, t.val % 8]
    ∧ win0_17.index t = ![t.val / 8, 0, t.val % 8] := by
  decide +kernel

/-- The arguments: the tokens and the projection's weights. -/
def x (c : Dev nD) (b : Fin 16) (s : Fin 2048) (k : Fin 1024) : EReal := m ((c : Thread nD τ).loc main_arg0) (ix3 b s k)
def w (c : Dev nD) (k : Fin 1024) (j : Fin 5400) : EReal := m ((c : Thread nD τ).loc main_arg1) (ix3 0 k j)

/-- The projection's feature `j` at position `s` of sequence `b`. -/
def z (c : Dev nD) (b : Fin 16) (s : Fin 2048) (j : Fin 5400) : EReal := ∑ k : Fin 1024, x m c b s k * w m c k j

/-- The sequence grid point `t` works on, and its row `r`'s position there. -/
abbrev seq (t : Fin cfg0.N) : Fin 16 := ⟨t.val / 8, by have : t.val < 128 := t.isLt; omega⟩
abbrev pos (t : Fin cfg0.N) (r : Fin 256) : Fin 2048 := ⟨t.val % 8 * 256 + r.val, by omega⟩

theorem tokens (c : Dev nD) (r : Fin 32768) (k : Fin 1024) :
    V m c main_v36 (ix2 r k) = x m c ⟨r.val / 2048, by omega⟩ ⟨r.val % 2048, by omega⟩ k := by
  unfold x
  unfold V
  simp only [hostOps0, hostOps0_1, hostOps0_2, List.flatten_cons, List.flatten_nil, List.append_nil, List.cons_append,
    List.nil_append]
  entry_read
  try simp -implicitDefEqProofs only [StableHlo.TRef.toBuf, StableHlo.TRef.ofBuf, cast_cast, cast_eq]
  clean_types
  pointwise

theorem cosines (c : Dev nD) (s : Fin 2048) (l : Fin 128) :
    V m c main_v30 (ix2 s l) = Ideal.cos (angle s (l.val % 32)) := by
  unfold angle
  unfold V
  simp only [hostOps0, hostOps0_1, hostOps0_2, List.flatten_cons, List.flatten_nil, List.append_nil, List.cons_append,
    List.nil_append]
  entry_read
  try simp -implicitDefEqProofs only [StableHlo.TRef.toBuf, StableHlo.TRef.ofBuf, cast_cast, cast_eq]
  clean_types
  pointwise
  split_ifs with h
  · rw [show l.val % 64 = l.val % 32 by omega]
  · rw [show l.val % 64 - 32 = l.val % 32 by omega]

theorem sines (c : Dev nD) (s : Fin 2048) (l : Fin 128) :
    V m c main_v35 (ix2 s l)
      = if l.val % 64 < 32 then -Ideal.sin (angle s (l.val % 32)) else Ideal.sin (angle s (l.val % 32)) := by
  unfold angle
  unfold V
  simp only [hostOps0, hostOps0_1, hostOps0_2, List.flatten_cons, List.flatten_nil, List.append_nil, List.cons_append,
    List.nil_append]
  entry_read
  try simp -implicitDefEqProofs only [StableHlo.TRef.toBuf, StableHlo.TRef.ofBuf, cast_cast, cast_eq]
  clean_types
  pointwise
  split_ifs with h
  · rw [show l.val % 64 = l.val % 32 by omega]
  · rw [show l.val % 64 - 32 = l.val % 32 by omega]

theorem weights (c : Dev nD) (k : Fin 1024) (j : Fin 1408) :
    V m c main_v3 (ix2 k j) = if h : j.val < 1304 then w m c k ⟨j.val, by omega⟩ else 0 := by
  unfold w
  unfold V
  simp only [hostOps0, hostOps0_1, hostOps0_2, List.flatten_cons, List.flatten_nil, List.append_nil, List.cons_append,
    List.nil_append]
  entry_read
  try simp -implicitDefEqProofs only [StableHlo.TRef.toBuf, StableHlo.TRef.ofBuf, cast_cast, cast_eq]
  clean_types
  pointwise
  rw [show FloatOps.sitofp (F := Ideal) FTy.f32 (0#32) = (0 : EReal) from by
    show (((0#32 : BitVec 32).toInt : ℝ) : EReal) = 0
    simp]

theorem weights' (c : Dev nD) (k : Fin 1024) (j : Fin 4096) :
    V m c main_v11 (ix2 k j) = if j.val < 1024 then w m c k ⟨1304 + j.val, by omega⟩
        else half * w m c k ⟨1304 + j.val, by omega⟩ := by
  unfold w half
  rw [← half_eq]
  unfold V
  simp only [hostOps0, hostOps0_1, hostOps0_2, List.flatten_cons, List.flatten_nil, List.append_nil, List.cons_append,
    List.nil_append]
  entry_read
  try simp -implicitDefEqProofs only [StableHlo.TRef.toBuf, StableHlo.TRef.ofBuf, cast_cast, cast_eq]
  clean_types
  pointwise
  by_cases h : j.val < 1024
  · rw [dif_pos h, if_pos h]
  · rw [dif_neg h, if_neg h]
    have e : 1304 + (1024 + (j.val - 1024)) = 1304 + j.val := by omega
    simp only [e]

theorem tokens_at (c : Dev nD) (t : Fin cfg0.N) (r : Fin 256) (k : Fin 1024) :
    (iblk m c 0 t : Vec Ideal S256x1024 .f32) (ix2 r k) = x m c (seq t) (pos t r) k := by
  have ht : t.val < 128 := t.isLt
  refine (congrArg (V m c main_v36) (?_ : _ = ix2 ⟨t.val * 256 + r.val, by omega⟩ k)).trans ((tokens m c _ _).trans ?_)
  · blk_ext [idx t]
  · congr 1 <;> exact Fin.ext (by dsimp; omega)

theorem cosines_at (c : Dev nD) (t : Fin cfg0.N) (r : Fin 256) (l : Fin 128) :
    (iblk m c 1 t : Vec Ideal S256x128 .f32) (ix2 r l) = Ideal.cos (angle (pos t r) (l.val % 32)) := by
  refine (congrArg (V m c main_v30) (?_ : _ = ix2 (pos t r) l)).trans (cosines m c _ _)
  blk_ext [idx t]

theorem sines_at (c : Dev nD) (t : Fin cfg0.N) (r : Fin 256) (l : Fin 128) :
    (iblk m c 2 t : Vec Ideal S256x128 .f32) (ix2 r l) = if l.val % 64 < 32 then -Ideal.sin (angle (pos t r) (l.val % 32))
      else Ideal.sin (angle (pos t r) (l.val % 32)) := by
  refine (congrArg (V m c main_v35) (?_ : _ = ix2 (pos t r) l)).trans (sines m c _ _)
  blk_ext [idx t]

theorem weights_at (c : Dev nD) (t : Fin cfg0.N) (k : Fin 1024) (j : Fin 1408) :
    (iblk m c 3 t : Vec Ideal S1024x1408 .bf16) (ix2 k j)
      = if h : j.val < 1304 then w m c k ⟨j.val, by omega⟩ else 0 := by
  refine (congrArg (V m c main_v3) (?_ : _ = ix2 k j)).trans (weights m c _ _)
  blk_ext [idx t]

theorem weights_at' (c : Dev nD) (t : Fin cfg0.N) (k : Fin 1024) (j : Fin 4096) :
    (iblk m c 4 t : Vec Ideal S1024x4096 .bf16) (ix2 k j)
      = if j.val < 1024 then w m c k ⟨1304 + j.val, by omega⟩ else half * w m c k ⟨1304 + j.val, by omega⟩ := by
  refine (congrArg (V m c main_v11) (?_ : _ = ix2 k j)).trans (weights' m c _ _)
  blk_ext [idx t]

/-- The first product of a block: the projection, and zeros in the padding. -/
theorem za_eq (c : Dev nD) (t : Fin cfg0.N) (r : Fin 256) (j : Fin 1408) (h : j.val < 1304) :
    Block.za (iblk m c 0 t) (iblk m c 3 t) r j = z m c (seq t) (pos t r) ⟨j.val, by omega⟩ := by
  unfold Block.za z
  exact Finset.sum_congr rfl fun k _ => by rw [tokens_at, weights_at, dif_pos h]

theorem za_eq_zero (c : Dev nD) (t : Fin cfg0.N) (r : Fin 256) (j : Fin 1408) (h : ¬j.val < 1304) :
    Block.za (iblk m c 0 t) (iblk m c 3 t) r j = 0 := by
  unfold Block.za
  exact Finset.sum_eq_zero fun k _ => by rw [weights_at, dif_neg h, mul_zero]

/-- The second product of a block: the projection, its gates halved. -/
theorem zb_eq (c : Dev nD) (t : Fin cfg0.N) (r : Fin 256) (j : Fin 4096) (h : j.val < 1024) :
    Block.zb (iblk m c 0 t) (iblk m c 4 t) r j = z m c (seq t) (pos t r) ⟨1304 + j.val, by omega⟩ := by
  unfold Block.zb z
  exact Finset.sum_congr rfl fun k _ => by rw [tokens_at, weights_at', if_pos h]

theorem zb_eq_half (c : Dev nD) (t : Fin cfg0.N) (r : Fin 256) (j : Fin 4096) (h : ¬j.val < 1024) :
    Block.zb (iblk m c 0 t) (iblk m c 4 t) r j = half * z m c (seq t) (pos t r) ⟨1304 + j.val, by omega⟩ := by
  unfold Block.zb z
  rw [mul_sum' _ _ half_nonneg half_ne_top]
  exact Finset.sum_congr rfl fun k _ => by rw [tokens_at, weights_at', if_neg h, mul_left_comm]

/-- Turning with the tables, whose sines carry the sign, is the rotary embedding. -/
theorem turn (f : Fin 5400 → EReal) (o : Fin 4889) (s : ℕ) (l : Fin 512) (h : Block.partner l.val < 512) :
    f ⟨o.val + l.val, by omega⟩ * Ideal.cos (angle s (l.val % 32))
      + f ⟨o.val + Block.partner l.val, by omega⟩ * (if l.val % 64 < 32 then -Ideal.sin (angle s (l.val % 32))
        else Ideal.sin (angle s (l.val % 32))) = turned f o s l := by
  unfold turned rotated
  split_ifs with g
  · rw [mul_neg, ← sub_eq_add_neg]
    have e : Block.partner l.val = l.val + 32 := if_pos g
    congr 3 <;> exact Fin.ext (by dsimp only; omega)
  · have e : Block.partner l.val = l.val - 32 := if_neg g
    congr 2 <;> exact congrArg f (Fin.ext (by dsimp only; omega))

/-- A turned key of the selection branch. -/
theorem sel_eq (c : Dev nD) (t : Fin cfg0.N) (r : Fin 256) (l : Fin 128) :
    k0_pay23 (k0_pay11 (iblk m c 1 t)) (k0_pay12 (iblk m c 2 t)) (k0_pay15 (iblk m c 0 t) (iblk m c 3 t)) (ix2 r l)
      = turned (z m c (seq t) (pos t r)) 768 (pos t r) ⟨l.val, by omega⟩ := by
  have hp := Block.partner_lt l.val 128 l.isLt (by omega)
  rw [Block.sel_at, cosines_at, sines_at, za_eq m c t r _ (by dsimp; omega), za_eq m c t r _ (by dsimp; omega)]
  exact turn _ 768 _ ⟨l.val, by omega⟩ (by dsimp; omega)

/-- A turned key of the window branch. -/
theorem win_eq (c : Dev nD) (t : Fin cfg0.N) (r : Fin 256) (l : Fin 128) :
    k0_pay28 (k0_pay11 (iblk m c 1 t)) (k0_pay12 (iblk m c 2 t)) (k0_pay24 (k0_pay15 (iblk m c 0 t) (iblk m c 3 t)))
        (Scalar.select (Scalar.cmpi .eq 64#32 0#32) 1#32 64#32) k0_pay25 k0_pay26 k0_pay27 (ix2 r l)
      = turned (z m c (seq t) (pos t r)) 1024 (pos t r) ⟨l.val, by omega⟩ := by
  have hp := Block.partner_lt l.val 128 l.isLt (by omega)
  rw [Block.win_at, cosines_at, sines_at, za_eq m c t r _ (by dsimp; omega), za_eq m c t r _ (by dsimp; omega)]
  exact turn _ 1024 _ ⟨l.val, by omega⟩ (by dsimp; omega)

/-- A turned query. -/
theorem query_eq (c : Dev nD) (t : Fin cfg0.N) (r : Fin 256) (l : Fin 512) :
    out0_13 (iblk m c 0 t) (iblk m c 1 t) (iblk m c 2 t) (iblk m c 3 t) (iblk m c 4 t) (ix3 0 l r)
      = turned (z m c (seq t) (pos t r)) 0 (pos t r) l := by
  have hp := Block.partner_lt l.val 512 l.isLt (by omega)
  have e1 : l.val % 128 % 32 = l.val % 32 := by omega
  have e2 : l.val % 128 % 64 = l.val % 64 := by omega
  rw [Block.out13_at, cosines_at, sines_at, za_eq m c t r _ (by dsimp; omega), za_eq m c t r _ (by dsimp; omega)]
  dsimp only
  rw [e1, e2, ← turn _ 0 _ l hp]
  congr 2 <;> exact congrArg _ (Fin.ext (by simp))

/-- The branch gates. -/
theorem gate_eq (c : Dev nD) (t : Fin cfg0.N) (r : Fin 256) (l : Fin 128) :
    out0_14 (iblk m c 0 t) (iblk m c 1 t) (iblk m c 2 t) (iblk m c 3 t) (iblk m c 4 t) (ix3 0 l r)
      = gate (z m c (seq t) (pos t r)) l := by
  rw [Block.out14_at]
  unfold gate
  split_ifs with h
  · rw [za_eq m c t r _ (by dsimp; omega)]
  · rw [za_eq_zero m c t r _ (by dsimp; omega)]

end Cert.InIdeal.Array
-- ==== Proof.InFinal.lean ====
/- The input projection's result arrays: what each grid point writes lies where its rows, or its columns, go. -/
module

public import proofs.«01_k».proof.Proof.InArray

@[expose] public section

set_option maxRecDepth 16384

noncomputable section

namespace Cert.InIdeal.Array

open Cert.InIdeal Cert.InIdeal.Gen Idealize.ShloMosaic Idealize.ShloMosaic.TcCoe Idealize.SL.Sem
open Idealize.ShloMosaic.Pointwise Cert.Layer Cert.Scalars

variable (m : (ℓ : Loc nD τ sig) → Buf (Elt Ideal) ℓ)

/-- The sequence a row of the result lies in, and its position there. -/
abbrev seqOf (r : Fin 32768) : Fin 16 := ⟨r.val / 2048, by omega⟩
abbrev posOf (r : Fin 32768) : Fin 2048 := ⟨r.val % 2048, by omega⟩

/-- Row `r` of grid point `t`'s blocks, among all rows. -/
def row (t : Fin cfg0.N) (r : Fin 256) : Fin 32768 := ⟨t.val * 256 + r.val, by have : t.val < 128 := t.isLt; omega⟩

theorem seqOf_row (t : Fin cfg0.N) (r : Fin 256) : seqOf (row t r) = seq t := Fin.ext (by dsimp [row]; omega)
theorem posOf_row (t : Fin cfg0.N) (r : Fin 256) : posOf (row t r) = pos t r := Fin.ext (by dsimp [row]; omega)

/-- A block's index with one sequence. -/
theorem eq_cols {n1 n2 : ℕ} (y : Shape.Idx ⟨3, ![1, n1, n2]⟩) : y = ix3 (n0 := 1) (n1 := n1) (n2 := n2) 0 (y 1) (y 2) := by
  refine (eq_ix3 (n0 := 1) (n1 := n1) (n2 := n2) y).trans ?_
  rw [show y 0 = (0 : Fin 1) from Fin.ext (by have h : (y 0).val < 1 := (y 0).isLt; exact Nat.lt_one_iff.mp h)]

/-- The keys and values to be compressed. -/
def R5 (c : Dev nD) (r : Fin 32768) (l : Fin 256) : EReal := z m c (seqOf r) (posOf r) ⟨512 + l.val, by omega⟩

def G5 (c : Dev nD) : Buf (Elt Ideal) ((c : Thread nD τ).loc main_v37_0) := fun i : S32768x256.Idx => R5 m c (i 0) (i 1)

theorem point5 (c : Dev nD) (t : Fin cfg0.N) (r : Fin 256) (l : Fin 256) :
    out0_5 (iblk m c 0 t) (iblk m c 1 t) (iblk m c 2 t) (iblk m c 3 t) (iblk m c 4 t) (ix2 r l) = R5 m c (row t r) l := by
  unfold R5
  rw [seqOf_row, posOf_row]
  rw [Block.out5_at, za_eq m c t r _ (by dsimp only; omega)]

theorem final5 (c : Dev nD) : (dats m 0 c).arrAt 5 cfg0.N = G5 m c := by
  refine (dats m 0 c).arrAt_eq_of_covers 5 _ (by decide +kernel) fun t hf y => ?_
  blk_simp
  rw [after0_5]
  have h0 : (y 0).val < 256 := (y 0).isLt
  have ht : t.val < 128 := t.isLt
  refine (congrArg _ (eq_ix2 (n0 := 256) (n1 := 256) y)).trans ((point5 m c t (y 0) (y 1)).trans (?_ : G5 m c (ix2 (row t (y 0)) (y 1)) = _))
  refine congrArg _ ?_
  unfold row
  blk_ext [idx t]

/-- The turned keys of the selection branch. -/
def R6 (c : Dev nD) (r : Fin 32768) (l : Fin 128) : EReal := turned (z m c (seqOf r) (posOf r)) 768 (posOf r) ⟨l.val, by omega⟩

def G6 (c : Dev nD) : Buf (Elt Ideal) ((c : Thread nD τ).loc main_v37_1) := fun i : S32768x128.Idx => R6 m c (i 0) (i 1)

theorem point6 (c : Dev nD) (t : Fin cfg0.N) (r : Fin 256) (l : Fin 128) :
    out0_6 (iblk m c 0 t) (iblk m c 1 t) (iblk m c 2 t) (iblk m c 3 t) (iblk m c 4 t) (ix2 r l) = R6 m c (row t r) l := by
  unfold R6
  rw [seqOf_row, posOf_row]
  rw [Block.out6_at, ← Block.sel_at, sel_eq]

theorem final6 (c : Dev nD) : (dats m 0 c).arrAt 6 cfg0.N = G6 m c := by
  refine (dats m 0 c).arrAt_eq_of_covers 6 _ (by decide +kernel) fun t hf y => ?_
  blk_simp
  rw [after0_6]
  have h0 : (y 0).val < 256 := (y 0).isLt
  have ht : t.val < 128 := t.isLt
  refine (congrArg _ (eq_ix2 (n0 := 256) (n1 := 128) y)).trans ((point6 m c t (y 0) (y 1)).trans (?_ : G6 m c (ix2 (row t (y 0)) (y 1)) = _))
  refine congrArg _ ?_
  unfold row
  blk_ext [idx t]

/-- The turned keys of the window branch. -/
def R7 (c : Dev nD) (r : Fin 32768) (l : Fin 128) : EReal := turned (z m c (seqOf r) (posOf r)) 1024 (posOf r) ⟨l.val, by omega⟩

def G7 (c : Dev nD) : Buf (Elt Ideal) ((c : Thread nD τ).loc main_v37_2) := fun i : S32768x128.Idx => R7 m c (i 0) (i 1)

theorem point7 (c : Dev nD) (t : Fin cfg0.N) (r : Fin 256) (l : Fin 128) :
    out0_7 (iblk m c 0 t) (iblk m c 1 t) (iblk m c 2 t) (iblk m c 3 t) (iblk m c 4 t) (ix2 r l) = R7 m c (row t r) l := by
  unfold R7
  rw [seqOf_row, posOf_row]
  rw [Block.out7_at, ← Block.win_at, win_eq]

theorem final7 (c : Dev nD) : (dats m 0 c).arrAt 7 cfg0.N = G7 m c := by
  refine (dats m 0 c).arrAt_eq_of_covers 7 _ (by decide +kernel) fun t hf y => ?_
  blk_simp
  rw [after0_7]
  have h0 : (y 0).val < 256 := (y 0).isLt
  have ht : t.val < 128 := t.isLt
  refine (congrArg _ (eq_ix2 (n0 := 256) (n1 := 128) y)).trans ((point7 m c t (y 0) (y 1)).trans (?_ : G7 m c (ix2 (row t (y 0)) (y 1)) = _))
  refine congrArg _ ?_
  unfold row
  blk_ext [idx t]

/-- The recurrent branch's input. -/
def R8 (c : Dev nD) (r : Fin 32768) (l : Fin 1024) : EReal := z m c (seqOf r) (posOf r) ⟨1304 + l.val, by omega⟩

def G8 (c : Dev nD) : Buf (Elt Ideal) ((c : Thread nD τ).loc main_v37_3) := fun i : S32768x1024.Idx => R8 m c (i 0) (i 1)

theorem point8 (c : Dev nD) (t : Fin cfg0.N) (r : Fin 256) (l : Fin 1024) :
    out0_8 (iblk m c 0 t) (iblk m c 1 t) (iblk m c 2 t) (iblk m c 3 t) (iblk m c 4 t) (ix2 r l) = R8 m c (row t r) l := by
  unfold R8
  rw [seqOf_row, posOf_row]
  rw [Block.out8_at, zb_eq m c t r _ (by dsimp only; omega)]
  exact congrArg _ (Fin.ext (by dsimp only; omega))

theorem final8 (c : Dev nD) : (dats m 0 c).arrAt 8 cfg0.N = G8 m c := by
  refine (dats m 0 c).arrAt_eq_of_covers 8 _ (by decide +kernel) fun t hf y => ?_
  blk_simp
  rw [after0_8]
  have h0 : (y 0).val < 256 := (y 0).isLt
  have ht : t.val < 128 := t.isLt
  refine (congrArg _ (eq_ix2 (n0 := 256) (n1 := 1024) y)).trans ((point8 m c t (y 0) (y 1)).trans (?_ : G8 m c (ix2 (row t (y 0)) (y 1)) = _))
  refine congrArg _ ?_
  unfold row
  blk_ext [idx t]

/-- The recurrent branch's gate, halved. -/
def R9 (c : Dev nD) (r : Fin 32768) (l : Fin 1024) : EReal := half * z m c (seqOf r) (posOf r) ⟨2328 + l.val, by omega⟩

def G9 (c : Dev nD) : Buf (Elt Ideal) ((c : Thread nD τ).loc main_v37_4) := fun i : S32768x1024.Idx => R9 m c (i 0) (i 1)

theorem point9 (c : Dev nD) (t : Fin cfg0.N) (r : Fin 256) (l : Fin 1024) :
    out0_9 (iblk m c 0 t) (iblk m c 1 t) (iblk m c 2 t) (iblk m c 3 t) (iblk m c 4 t) (ix2 r l) = R9 m c (row t r) l := by
  unfold R9
  rw [seqOf_row, posOf_row]
  rw [Block.out9_at, zb_eq_half m c t r _ (by dsimp only; omega)]
  exact congrArg _ (congrArg _ (Fin.ext (by dsimp only; omega)))

theorem final9 (c : Dev nD) : (dats m 0 c).arrAt 9 cfg0.N = G9 m c := by
  refine (dats m 0 c).arrAt_eq_of_covers 9 _ (by decide +kernel) fun t hf y => ?_
  blk_simp
  rw [after0_9]
  have h0 : (y 0).val < 256 := (y 0).isLt
  have ht : t.val < 128 := t.isLt
  refine (congrArg _ (eq_ix2 (n0 := 256) (n1 := 1024) y)).trans ((point9 m c t (y 0) (y 1)).trans (?_ : G9 m c (ix2 (row t (y 0)) (y 1)) = _))
  refine congrArg _ ?_
  unfold row
  blk_ext [idx t]

/-- The attention's merge gate, halved. -/
def R10 (c : Dev nD) (r : Fin 32768) (l : Fin 1024) : EReal := half * z m c (seqOf r) (posOf r) ⟨3352 + l.val, by omega⟩

def G10 (c : Dev nD) : Buf (Elt Ideal) ((c : Thread nD τ).loc main_v37_5) := fun i : S32768x1024.Idx => R10 m c (i 0) (i 1)

theorem point10 (c : Dev nD) (t : Fin cfg0.N) (r : Fin 256) (l : Fin 1024) :
    out0_10 (iblk m c 0 t) (iblk m c 1 t) (iblk m c 2 t) (iblk m c 3 t) (iblk m c 4 t) (ix2 r l) = R10 m c (row t r) l := by
  unfold R10
  rw [seqOf_row, posOf_row]
  rw [Block.out10_at, zb_eq_half m c t r _ (by dsimp only; omega)]
  exact congrArg _ (congrArg _ (Fin.ext (by dsimp only; omega)))

theorem final10 (c : Dev nD) : (dats m 0 c).arrAt 10 cfg0.N = G10 m c := by
  refine (dats m 0 c).arrAt_eq_of_covers 10 _ (by decide +kernel) fun t hf y => ?_
  blk_simp
  rw [after0_10]
  have h0 : (y 0).val < 256 := (y 0).isLt
  have ht : t.val < 128 := t.isLt
  refine (congrArg _ (eq_ix2 (n0 := 256) (n1 := 1024) y)).trans ((point10 m c t (y 0) (y 1)).trans (?_ : G10 m c (ix2 (row t (y 0)) (y 1)) = _))
  refine congrArg _ ?_
  unfold row
  blk_ext [idx t]

/-- The recurrent branch's merge gate, halved. -/
def R11 (c : Dev nD) (r : Fin 32768) (l : Fin 1024) : EReal := half * z m c (seqOf r) (posOf r) ⟨4376 + l.val, by omega⟩

def G11 (c : Dev nD) : Buf (Elt Ideal) ((c : Thread nD τ).loc main_v37_6) := fun i : S32768x1024.Idx => R11 m c (i 0) (i 1)

theorem point11 (c : Dev nD) (t : Fin cfg0.N) (r : Fin 256) (l : Fin 1024) :
    out0_11 (iblk m c 0 t) (iblk m c 1 t) (iblk m c 2 t) (iblk m c 3 t) (iblk m c 4 t) (ix2 r l) = R11 m c (row t r) l := by
  unfold R11
  rw [seqOf_row, posOf_row]
  rw [Block.out11_at, zb_eq_half m c t r _ (by dsimp only; omega)]
  exact congrArg _ (congrArg _ (Fin.ext (by dsimp only; omega)))

theorem final11 (c : Dev nD) : (dats m 0 c).arrAt 11 cfg0.N = G11 m c := by
  refine (dats m 0 c).arrAt_eq_of_covers 11 _ (by decide +kernel) fun t hf y => ?_
  blk_simp
  rw [after0_11]
  have h0 : (y 0).val < 256 := (y 0).isLt
  have ht : t.val < 128 := t.isLt
  refine (congrArg _ (eq_ix2 (n0 := 256) (n1 := 1024) y)).trans ((point11 m c t (y 0) (y 1)).trans (?_ : G11 m c (ix2 (row t (y 0)) (y 1)) = _))
  refine congrArg _ ?_
  unfold row
  blk_ext [idx t]

/-- The queries, feature by feature. -/
def R12 (c : Dev nD) (b : Fin 16) (l : Fin 512) (s : Fin 2048) : EReal := z m c b s ⟨l.val, by omega⟩

def G12 (c : Dev nD) : Buf (Elt Ideal) ((c : Thread nD τ).loc main_v37_7) :=
  fun i : S16x512x2048.Idx => R12 m c (i 0) (i 1) (i 2)

theorem point12 (c : Dev nD) (t : Fin cfg0.N) (l : Fin 512) (r : Fin 256) :
    out0_12 (iblk m c 0 t) (iblk m c 1 t) (iblk m c 2 t) (iblk m c 3 t) (iblk m c 4 t) (ix3 0 l r) = R12 m c (seq t) l (pos t r) := by
  unfold R12
  rw [Block.out12_at, za_eq m c t r _ (by dsimp only; omega)]

theorem final12 (c : Dev nD) : (dats m 0 c).arrAt 12 cfg0.N = G12 m c := by
  refine (dats m 0 c).arrAt_eq_of_covers 12 _ (by decide +kernel) fun t hf y => ?_
  blk_simp
  rw [after0_12]
  have h2 : (y 2).val < 256 := (y 2).isLt
  have ht : t.val < 128 := t.isLt
  refine (congrArg _ (eq_cols y)).trans ((point12 m c t (y 1) (y 2)).trans (?_ : G12 m c (ix3 (seq t) (y 1) (pos t (y 2))) = _))
  refine congrArg _ ?_
  blk_ext [idx t]

/-- The turned queries, feature by feature. -/
def R13 (c : Dev nD) (b : Fin 16) (l : Fin 512) (s : Fin 2048) : EReal := turned (z m c b s) 0 s l

def G13 (c : Dev nD) : Buf (Elt Ideal) ((c : Thread nD τ).loc main_v37_8) :=
  fun i : S16x512x2048.Idx => R13 m c (i 0) (i 1) (i 2)

theorem point13 (c : Dev nD) (t : Fin cfg0.N) (l : Fin 512) (r : Fin 256) :
    out0_13 (iblk m c 0 t) (iblk m c 1 t) (iblk m c 2 t) (iblk m c 3 t) (iblk m c 4 t) (ix3 0 l r) = R13 m c (seq t) l (pos t r) := by
  unfold R13
  rw [query_eq]

theorem final13 (c : Dev nD) : (dats m 0 c).arrAt 13 cfg0.N = G13 m c := by
  refine (dats m 0 c).arrAt_eq_of_covers 13 _ (by decide +kernel) fun t hf y => ?_
  blk_simp
  rw [after0_13]
  have h2 : (y 2).val < 256 := (y 2).isLt
  have ht : t.val < 128 := t.isLt
  refine (congrArg _ (eq_cols y)).trans ((point13 m c t (y 1) (y 2)).trans (?_ : G13 m c (ix3 (seq t) (y 1) (pos t (y 2))) = _))
  refine congrArg _ ?_
  blk_ext [idx t]

/-- The branch gates, feature by feature. -/
def R14 (c : Dev nD) (b : Fin 16) (l : Fin 128) (s : Fin 2048) : EReal := gate (z m c b s) l

def G14 (c : Dev nD) : Buf (Elt Ideal) ((c : Thread nD τ).loc main_v37_9) :=
  fun i : S16x128x2048.Idx => R14 m c (i 0) (i 1) (i 2)

theorem point14 (c : Dev nD) (t : Fin cfg0.N) (l : Fin 128) (r : Fin 256) :
    out0_14 (iblk m c 0 t) (iblk m c 1 t) (iblk m c 2 t) (iblk m c 3 t) (iblk m c 4 t) (ix3 0 l r) = R14 m c (seq t) l (pos t r) := by
  unfold R14
  rw [gate_eq]

theorem final14 (c : Dev nD) : (dats m 0 c).arrAt 14 cfg0.N = G14 m c := by
  refine (dats m 0 c).arrAt_eq_of_covers 14 _ (by decide +kernel) fun t hf y => ?_
  blk_simp
  rw [after0_14]
  have h2 : (y 2).val < 256 := (y 2).isLt
  have ht : t.val < 128 := t.isLt
  refine (congrArg _ (eq_cols y)).trans ((point14 m c t (y 1) (y 2)).trans (?_ : G14 m c (ix3 (seq t) (y 1) (pos t (y 2))) = _))
  refine congrArg _ ?_
  blk_ext [idx t]

/-- The keys and values to be compressed, feature by feature. -/
def R15 (c : Dev nD) (b : Fin 16) (l : Fin 256) (s : Fin 2048) : EReal := z m c b s ⟨512 + l.val, by omega⟩

def G15 (c : Dev nD) : Buf (Elt Ideal) ((c : Thread nD τ).loc main_v37_10) :=
  fun i : S16x256x2048.Idx => R15 m c (i 0) (i 1) (i 2)

theorem point15 (c : Dev nD) (t : Fin cfg0.N) (l : Fin 256) (r : Fin 256) :
    out0_15 (iblk m c 0 t) (iblk m c 1 t) (iblk m c 2 t) (iblk m c 3 t) (iblk m c 4 t) (ix3 0 l r) = R15 m c (seq t) l (pos t r) := by
  unfold R15
  rw [Block.out15_at, za_eq m c t r _ (by dsimp only; omega)]

theorem final15 (c : Dev nD) : (dats m 0 c).arrAt 15 cfg0.N = G15 m c := by
  refine (dats m 0 c).arrAt_eq_of_covers 15 _ (by decide +kernel) fun t hf y => ?_
  blk_simp
  rw [after0_15]
  have h2 : (y 2).val < 256 := (y 2).isLt
  have ht : t.val < 128 := t.isLt
  refine (congrArg _ (eq_cols y)).trans ((point15 m c t (y 1) (y 2)).trans (?_ : G15 m c (ix3 (seq t) (y 1) (pos t (y 2))) = _))
  refine congrArg _ ?_
  blk_ext [idx t]

/-- The selection branch's keys and values, feature by feature. -/
def R16 (c : Dev nD) (b : Fin 16) (l : Fin 256) (s : Fin 2048) : EReal := keyValue (z m c b s) 768 s l

def G16 (c : Dev nD) : Buf (Elt Ideal) ((c : Thread nD τ).loc main_v37_11) :=
  fun i : S16x256x2048.Idx => R16 m c (i 0) (i 1) (i 2)

theorem point16 (c : Dev nD) (t : Fin cfg0.N) (l : Fin 256) (r : Fin 256) :
    out0_16 (iblk m c 0 t) (iblk m c 1 t) (iblk m c 2 t) (iblk m c 3 t) (iblk m c 4 t) (ix3 0 l r) = R16 m c (seq t) l (pos t r) := by
  unfold R16
  rw [Block.out16_at]
  unfold keyValue
  split_ifs with h
  · rw [sel_eq]
  · rw [za_eq m c t r _ (by dsimp only; omega)]
    rfl

theorem final16 (c : Dev nD) : (dats m 0 c).arrAt 16 cfg0.N = G16 m c := by
  refine (dats m 0 c).arrAt_eq_of_covers 16 _ (by decide +kernel) fun t hf y => ?_
  blk_simp
  rw [after0_16]
  have h2 : (y 2).val < 256 := (y 2).isLt
  have ht : t.val < 128 := t.isLt
  refine (congrArg _ (eq_cols y)).trans ((point16 m c t (y 1) (y 2)).trans (?_ : G16 m c (ix3 (seq t) (y 1) (pos t (y 2))) = _))
  refine congrArg _ ?_
  blk_ext [idx t]

/-- The window branch's keys and values, feature by feature. -/
def R17 (c : Dev nD) (b : Fin 16) (l : Fin 256) (s : Fin 2048) : EReal := keyValue (z m c b s) 1024 s l

def G17 (c : Dev nD) : Buf (Elt Ideal) ((c : Thread nD τ).loc main_v37_12) :=
  fun i : S16x256x2048.Idx => R17 m c (i 0) (i 1) (i 2)

theorem point17 (c : Dev nD) (t : Fin cfg0.N) (l : Fin 256) (r : Fin 256) :
    out0_17 (iblk m c 0 t) (iblk m c 1 t) (iblk m c 2 t) (iblk m c 3 t) (iblk m c 4 t) (ix3 0 l r) = R17 m c (seq t) l (pos t r) := by
  unfold R17
  rw [Block.out17_at]
  unfold keyValue
  split_ifs with h
  · rw [win_eq]
  · rw [za_eq m c t r _ (by dsimp only; omega)]
    rfl

theorem final17 (c : Dev nD) : (dats m 0 c).arrAt 17 cfg0.N = G17 m c := by
  refine (dats m 0 c).arrAt_eq_of_covers 17 _ (by decide +kernel) fun t hf y => ?_
  blk_simp
  rw [after0_17]
  have h2 : (y 2).val < 256 := (y 2).isLt
  have ht : t.val < 128 := t.isLt
  refine (congrArg _ (eq_cols y)).trans ((point17 m c t (y 1) (y 2)).trans (?_ : G17 m c (ix3 (seq t) (y 1) (pos t (y 2))) = _))
  refine congrArg _ ?_
  blk_ext [idx t]

end Cert.InIdeal.Array
-- ==== Proof.InRead.lean ====
/- The input projection's reference at an index: every result is a column of the projected token, turned by the
   rotary embedding, halved or put through the logistic function where the layer does so. -/
module

public import proofs.«01_k».proof.Proof.Gen.InRefIdeal.Run
public import proofs.«01_k».proof.Proof.Gen.InRefIdeal.Read
public import proofs.«01_k».proof.Proof.Layer
public import Idealize.ShloMosaic.Lib.Pointwise

@[expose] public section

set_option maxRecDepth 16384

noncomputable section

namespace Cert.InRefIdeal.Rows

open Cert.InRefIdeal Cert.InRefIdeal.Gen Cert.InRefIdeal.Read Idealize.ShloMosaic Idealize.SL.Sem
open Idealize.ShloMosaic.Pointwise Cert.Layer Cert.Scalars

variable (x0 : (⟨S16x2048x1024, .f32⟩ : BufTy).Contents (Elt Ideal))
  (x1 : (⟨S1x1024x5400, .f32⟩ : BufTy).Contents (Elt Ideal))

/-- Column `j` of the projection of token `s` of sequence `b`. -/
def z (b : Fin 16) (s : Fin 2048) (j : Fin 5400) : EReal := ∑ k : Fin 1024, x0 (ix3 b s k) * x1 (ix3 0 k j)

theorem z_at (b : Fin 16) (s : Fin 2048) (j : Fin 5400) : val_main_v2 x0 x1 (ix3 b s j) = z x0 x1 b s j := by
  unfold z
  pointwise [val_main_v2, val_main_v1]

/-- The table of cosines. -/
theorem cos_at (s : Fin 2048) (f : Fin 32) : val_main_v24 (F := Ideal) (ix2 s f) = Ideal.cos (angle s.val f.val) := by
  unfold angle
  pointwise [val_main_v24, val_main_v23, val_main_v22, val_main_v21, val_main_v20, val_main_v19, val_main_v18,
    val_main_v17, val_main_v16, val_main_v15, val_main_v14, val_main_v13, val_main_v12, val_main_v0, val_main_cst,
    val_main_cst_0]

/-- The table of sines. -/
theorem sin_at (s : Fin 2048) (f : Fin 32) : val_main_v26 (F := Ideal) (ix2 s f) = Ideal.sin (angle s.val f.val) := by
  unfold angle
  pointwise [val_main_v26, val_main_v23, val_main_v22, val_main_v21, val_main_v20, val_main_v19, val_main_v18,
    val_main_v17, val_main_v16, val_main_v15, val_main_v14, val_main_v13, val_main_v12, val_main_v0, val_main_cst,
    val_main_cst_0]

theorem cos_at' (s : Fin 2048) (f : Fin 32) : val_main_v56 (F := Ideal) (ix2 s f) = Ideal.cos (angle s.val f.val) :=
  cos_at s f

theorem sin_at' (s : Fin 2048) (f : Fin 32) : val_main_v58 (F := Ideal) (ix2 s f) = Ideal.sin (angle s.val f.val) :=
  sin_at s f

theorem cos_at'' (s : Fin 2048) (f : Fin 32) : val_main_v92 (F := Ideal) (ix2 s f) = Ideal.cos (angle s.val f.val) :=
  cos_at s f

theorem sin_at'' (s : Fin 2048) (f : Fin 32) : val_main_v94 (F := Ideal) (ix2 s f) = Ideal.sin (angle s.val f.val) :=
  sin_at s f

/-- The turned keys of the selection branch. -/
theorem v72_at (b : Fin 16) (s : Fin 2048) (h : Fin 2) (l : Fin 64) :
    val_main_v72 x0 x1 (ix4 b s h l) = rotated (z x0 x1 b s ⟨768 + h.val * 64 + l.val % 32, by omega⟩)
      (z x0 x1 b s ⟨768 + h.val * 64 + l.val % 32 + 32, by omega⟩) s.val l.val := by
  unfold rotated
  by_cases g : l.val < 32
  · have e : l.val % 32 = l.val := by omega
    rw [if_pos (by omega)]
    simp only [e]
    pointwise [val_main_v72, val_main_v71, val_main_v70, val_main_v69, val_main_v68, val_main_v67,
      val_main_v66, val_main_v65, val_main_v64, val_main_v63, val_main_v62, val_main_v61, val_main_v60,
      val_main_v59, val_main_v57, val_main_v43, val_main_v42, val_main_v10, val_main_v4]
    rw [dif_pos g, z_at, z_at, cos_at', sin_at']
    congr 3 <;> exact Fin.ext (by dsimp only; omega)
  · have e : l.val % 32 = l.val - 32 := by omega
    rw [if_neg (by omega)]
    simp only [e]
    pointwise [val_main_v72, val_main_v71, val_main_v70, val_main_v69, val_main_v68, val_main_v67,
      val_main_v66, val_main_v65, val_main_v64, val_main_v63, val_main_v62, val_main_v61, val_main_v60,
      val_main_v59, val_main_v57, val_main_v43, val_main_v42, val_main_v10, val_main_v4]
    rw [dif_neg g, z_at, z_at, cos_at', sin_at']
    congr 3 <;> exact Fin.ext (by dsimp only; omega)

/-- The turned keys of the window branch. -/
theorem v108_at (b : Fin 16) (s : Fin 2048) (h : Fin 2) (l : Fin 64) :
    val_main_v108 x0 x1 (ix4 b s h l) = rotated (z x0 x1 b s ⟨1024 + h.val * 64 + l.val % 32, by omega⟩)
      (z x0 x1 b s ⟨1024 + h.val * 64 + l.val % 32 + 32, by omega⟩) s.val l.val := by
  unfold rotated
  by_cases g : l.val < 32
  · have e : l.val % 32 = l.val := by omega
    rw [if_pos (by omega)]
    simp only [e]
    pointwise [val_main_v108, val_main_v107, val_main_v106, val_main_v105, val_main_v104, val_main_v103,
      val_main_v102, val_main_v101, val_main_v100, val_main_v99, val_main_v98, val_main_v97, val_main_v96,
      val_main_v95, val_main_v93, val_main_v79, val_main_v78, val_main_v10, val_main_v4]
    rw [dif_pos g, z_at, z_at, cos_at'', sin_at'']
    congr 3 <;> exact Fin.ext (by dsimp only; omega)
  · have e : l.val % 32 = l.val - 32 := by omega
    rw [if_neg (by omega)]
    simp only [e]
    pointwise [val_main_v108, val_main_v107, val_main_v106, val_main_v105, val_main_v104, val_main_v103,
      val_main_v102, val_main_v101, val_main_v100, val_main_v99, val_main_v98, val_main_v97, val_main_v96,
      val_main_v95, val_main_v93, val_main_v79, val_main_v78, val_main_v10, val_main_v4]
    rw [dif_neg g, z_at, z_at, cos_at'', sin_at'']
    congr 3 <;> exact Fin.ext (by dsimp only; omega)

/-- The turned queries. -/
theorem v40_at (b : Fin 16) (s : Fin 2048) (h : Fin 2) (j : Fin 4) (l : Fin 64) :
    val_main_v40 x0 x1 (ix5 b s h j l) = rotated (z x0 x1 b s ⟨h.val * 256 + j.val * 64 + l.val % 32, by omega⟩)
      (z x0 x1 b s ⟨h.val * 256 + j.val * 64 + l.val % 32 + 32, by omega⟩) s.val l.val := by
  unfold rotated
  by_cases g : l.val < 32
  · have e : l.val % 32 = l.val := by omega
    rw [if_pos (by omega)]
    simp only [e]
    pointwise [val_main_v40, val_main_v39, val_main_v38, val_main_v37, val_main_v36, val_main_v35,
      val_main_v34, val_main_v33, val_main_v32, val_main_v31, val_main_v30, val_main_v29, val_main_v28,
      val_main_v27, val_main_v25, val_main_v11, val_main_v3]
    rw [dif_pos g, z_at, z_at, cos_at, sin_at]
    congr 3 <;> exact Fin.ext (by dsimp only; omega)
  · have e : l.val % 32 = l.val - 32 := by omega
    rw [if_neg (by omega)]
    simp only [e]
    pointwise [val_main_v40, val_main_v39, val_main_v38, val_main_v37, val_main_v36, val_main_v35,
      val_main_v34, val_main_v33, val_main_v32, val_main_v31, val_main_v30, val_main_v29, val_main_v28,
      val_main_v27, val_main_v25, val_main_v11, val_main_v3]
    rw [dif_neg g, z_at, z_at, cos_at, sin_at]
    congr 3 <;> exact Fin.ext (by dsimp only; omega)

end Cert.InRefIdeal.Rows
-- ==== Proof.InResults.lean ====
/- The input projection's reference, result by result. -/
module

public import proofs.«01_k».proof.Proof.InRead

@[expose] public section

set_option maxRecDepth 16384

noncomputable section

namespace Cert.InRefIdeal.Rows

open Cert.InRefIdeal Cert.InRefIdeal.Gen Cert.InRefIdeal.Read Idealize.ShloMosaic Idealize.SL.Sem
open Idealize.ShloMosaic.Pointwise Cert.Layer Cert.Scalars

variable (x0 : (⟨S16x2048x1024, .f32⟩ : BufTy).Contents (Elt Ideal))
  (x1 : (⟨S1x1024x5400, .f32⟩ : BufTy).Contents (Elt Ideal))

/-- The sequence a row lies in, and its position there. -/
abbrev seq (r : Fin 32768) : Fin 16 := ⟨r.val / 2048, by omega⟩
abbrev pos (r : Fin 32768) : Fin 2048 := ⟨r.val % 2048, by omega⟩

/-- The keys and values to be compressed. -/
theorem v41_at (b : Fin 16) (s : Fin 2048) (h g : Fin 2) (l : Fin 64) :
    val_main_v41 x0 x1 (ix5 b s h g l) = z x0 x1 b s ⟨512 + (h.val * 128 + g.val * 64 + l.val), by omega⟩ := by
  rw [← z_at]
  pointwise [val_main_v41, val_main_v10, val_main_v4]

/-- A branch's keys and values: turned keys, then plain values. -/
theorem v77_at (b : Fin 16) (s : Fin 2048) (h g : Fin 2) (l : Fin 64) :
    val_main_v77 x0 x1 (ix5 b s h g l) = keyValue (z x0 x1 b s) 768 s ⟨h.val * 128 + g.val * 64 + l.val, by omega⟩ := by
  unfold keyValue turned
  by_cases h1 : h.val < 1
  · rw [if_pos (by dsimp only; omega), ← rotated_mod]
    have e : (h.val * 128 + g.val * 64 + l.val) % 64 = l.val := by omega
    dsimp only
    rw [e]
    pointwise [val_main_v77, val_main_v75]
    rw [dif_pos h1, v72_at]
    congr 2 <;> exact Fin.ext (by dsimp; omega)
  · rw [if_neg (by dsimp only; omega), ← z_at]
    pointwise [val_main_v77, val_main_v76, val_main_v74, val_main_v73, val_main_v10, val_main_v4]
    rw [dif_neg h1]
    congr 2
    exact Fin.ext (by dsimp; omega)

theorem v113_at (b : Fin 16) (s : Fin 2048) (h g : Fin 2) (l : Fin 64) :
    val_main_v113 x0 x1 (ix5 b s h g l) = keyValue (z x0 x1 b s) 1024 s ⟨h.val * 128 + g.val * 64 + l.val, by omega⟩ := by
  unfold keyValue turned
  by_cases h1 : h.val < 1
  · rw [if_pos (by dsimp only; omega), ← rotated_mod]
    have e : (h.val * 128 + g.val * 64 + l.val) % 64 = l.val := by omega
    dsimp only
    rw [e]
    pointwise [val_main_v113, val_main_v111]
    rw [dif_pos h1, v108_at]
    congr 2 <;> exact Fin.ext (by dsimp; omega)
  · rw [if_neg (by dsimp only; omega), ← z_at]
    pointwise [val_main_v113, val_main_v112, val_main_v110, val_main_v109, val_main_v10, val_main_v4]
    rw [dif_neg h1]
    congr 2
    exact Fin.ext (by dsimp; omega)

theorem v121_at (r : Fin 32768) (l : Fin 256) :
    val_main_v121 x0 x1 (ix2 r l) = z x0 x1 (seq r) (pos r) ⟨512 + l.val, by omega⟩ := by
  pointwise [val_main_v121]
  rw [v41_at]
  congr 1
  exact Fin.ext (by dsimp; omega)

theorem v125_at (r : Fin 32768) (l : Fin 128) :
    val_main_v125 x0 x1 (ix2 r l) = turned (z x0 x1 (seq r) (pos r)) 768 (pos r) ⟨l.val, by omega⟩ := by
  pointwise [val_main_v125, val_main_v124, val_main_v123, val_main_v122]
  rw [v77_at]
  unfold keyValue
  rw [if_pos (by dsimp; omega)]
  congr 1
  exact Fin.ext (by dsimp; omega)

theorem v129_at (r : Fin 32768) (l : Fin 128) :
    val_main_v129 x0 x1 (ix2 r l) = turned (z x0 x1 (seq r) (pos r)) 1024 (pos r) ⟨l.val, by omega⟩ := by
  pointwise [val_main_v129, val_main_v128, val_main_v127, val_main_v126]
  rw [v113_at]
  unfold keyValue
  rw [if_pos (by dsimp; omega)]
  congr 1
  exact Fin.ext (by dsimp; omega)

theorem v130_at (r : Fin 32768) (l : Fin 1024) :
    val_main_v130 x0 x1 (ix2 r l) = z x0 x1 (seq r) (pos r) ⟨1304 + l.val, by omega⟩ := by
  rw [← z_at]
  pointwise [val_main_v130, val_main_v6]

theorem v133_at (r : Fin 32768) (l : Fin 1024) :
    val_main_v133 x0 x1 (ix2 r l) = half * z x0 x1 (seq r) (pos r) ⟨2328 + l.val, by omega⟩ := by
  rw [← z_at]
  unfold half
  rw [← half_eq]
  pointwise [val_main_v133, val_main_v132, val_main_v131, val_main_cst_7, val_main_v7]

theorem v136_at (r : Fin 32768) (l : Fin 1024) :
    val_main_v136 x0 x1 (ix2 r l) = half * z x0 x1 (seq r) (pos r) ⟨3352 + l.val, by omega⟩ := by
  rw [← z_at]
  unfold half
  rw [← half_eq]
  pointwise [val_main_v136, val_main_v135, val_main_v134, val_main_cst_8, val_main_v8]

theorem v139_at (r : Fin 32768) (l : Fin 1024) :
    val_main_v139 x0 x1 (ix2 r l) = half * z x0 x1 (seq r) (pos r) ⟨4376 + l.val, by omega⟩ := by
  rw [← z_at]
  unfold half
  rw [← half_eq]
  pointwise [val_main_v139, val_main_v138, val_main_v137, val_main_cst_9, val_main_v9]

theorem v140_at (b : Fin 16) (l : Fin 512) (s : Fin 2048) :
    val_main_v140 x0 x1 (ix3 b l s) = z x0 x1 b s ⟨l.val, by omega⟩ := by
  rw [← z_at]
  pointwise [val_main_v140, val_main_v3]

theorem v142_at (b : Fin 16) (l : Fin 512) (s : Fin 2048) :
    val_main_v142 x0 x1 (ix3 b l s) = turned (z x0 x1 b s) 0 s l := by
  pointwise [val_main_v142, val_main_v141]
  rw [v40_at]
  unfold turned
  rw [rotated_mod]
  congr 2 <;> exact Fin.ext (by dsimp; omega)

theorem v143_at (b : Fin 16) (l : Fin 128) (s : Fin 2048) :
    val_main_v143 x0 x1 (ix3 b l s) = gate (z x0 x1 b s) l := by
  unfold gate sigmoid
  simp only [← z_at]
  pointwise [val_main_v143, val_main_v120, val_main_v119, val_main_v118, val_main_v117, val_main_v116, val_main_v115,
    val_main_v114, val_main_v5, val_main_cst_5, val_main_cst_6, val_main_call0_v0, val_main_c]
  rw [show FloatOps.sitofp (F := Ideal) FTy.f32 (0#32) = (0 : EReal) from by
    show (((0#32 : BitVec 32).toInt : ℝ) : EReal) = 0
    simp]

theorem v145_at (b : Fin 16) (l : Fin 256) (s : Fin 2048) :
    val_main_v145 x0 x1 (ix3 b l s) = z x0 x1 b s ⟨512 + l.val, by omega⟩ := by
  pointwise [val_main_v145, val_main_v144]
  rw [v41_at]
  congr 1
  exact Fin.ext (by dsimp; omega)

theorem v147_at (b : Fin 16) (l : Fin 256) (s : Fin 2048) :
    val_main_v147 x0 x1 (ix3 b l s) = keyValue (z x0 x1 b s) 768 s l := by
  pointwise [val_main_v147, val_main_v146]
  rw [v77_at]
  congr 1
  exact Fin.ext (by dsimp; omega)

theorem v149_at (b : Fin 16) (l : Fin 256) (s : Fin 2048) :
    val_main_v149 x0 x1 (ix3 b l s) = keyValue (z x0 x1 b s) 1024 s l := by
  pointwise [val_main_v149, val_main_v148]
  rw [v113_at]
  congr 1
  exact Fin.ext (by dsimp; omega)

end Cert.InRefIdeal.Rows
-- ==== Proof.InClaim.lean ====
/- The claims about the input projection: both programs leave the arguments alone, and on the extended reals each of
   the kernel's thirteen result arrays is the reference's. -/
module

public import proofs.«01_k».proof.Defs
public import proofs.«01_k».proof.Proof.InFinal
public import proofs.«01_k».proof.Proof.InResults
public import proofs.«01_k».proof.Proof.Gen.In.Frame

@[expose] public section

set_option maxRecDepth 16384

noncomputable section

namespace Cert.Proof.In

open Idealize.ShloMosaic Idealize.SL.Sem Idealize.ShloMosaic.Pointwise Cert.InRefIdeal.Read Cert.InRefIdeal.Rows

/-- An array of rows is determined by its rows' features. -/
theorem rows_ext {n w : ℕ} {f g : Shape.Idx ⟨2, ![n, w]⟩ → EReal} (h : ∀ r l, f (ix2 r l) = g (ix2 r l)) : f = g :=
  funext fun i => by
    rw [eq_ix2 (n0 := n) (n1 := w) i]
    exact h _ _

/-- An array of features is determined by its entries. -/
theorem cols_ext {n w k : ℕ} {f g : Shape.Idx ⟨3, ![n, w, k]⟩ → EReal} (h : ∀ b l s, f (ix3 b l s) = g (ix3 b l s)) : f = g :=
  funext fun i => by
    rw [eq_ix3 (n0 := n) (n1 := w) (n2 := k) i]
    exact h _ _ _

variable (m : (ℓ : Loc Cert.InIdeal.nD Cert.InIdeal.τ Cert.InIdeal.sig) → Buf (Elt Ideal) ℓ)

/-- Each array of the reference is the array the kernel leaves, from the same arguments. -/
theorem same5 (c : Dev Cert.InIdeal.nD) :
    val_main_v121 (F := Ideal) (m ((c.tc : Thread Cert.InIdeal.nD Cert.InIdeal.τ).loc Cert.InIdeal.main_arg0))
        (m ((c.tc : Thread Cert.InIdeal.nD Cert.InIdeal.τ).loc Cert.InIdeal.main_arg1)) =
      Cert.InIdeal.Array.G5 m c :=
  rows_ext fun r l => v121_at _ _ r l

theorem same6 (c : Dev Cert.InIdeal.nD) :
    val_main_v125 (F := Ideal) (m ((c.tc : Thread Cert.InIdeal.nD Cert.InIdeal.τ).loc Cert.InIdeal.main_arg0))
        (m ((c.tc : Thread Cert.InIdeal.nD Cert.InIdeal.τ).loc Cert.InIdeal.main_arg1)) =
      Cert.InIdeal.Array.G6 m c :=
  rows_ext fun r l => v125_at _ _ r l

theorem same7 (c : Dev Cert.InIdeal.nD) :
    val_main_v129 (F := Ideal) (m ((c.tc : Thread Cert.InIdeal.nD Cert.InIdeal.τ).loc Cert.InIdeal.main_arg0))
        (m ((c.tc : Thread Cert.InIdeal.nD Cert.InIdeal.τ).loc Cert.InIdeal.main_arg1)) =
      Cert.InIdeal.Array.G7 m c :=
  rows_ext fun r l => v129_at _ _ r l

theorem same8 (c : Dev Cert.InIdeal.nD) :
    val_main_v130 (F := Ideal) (m ((c.tc : Thread Cert.InIdeal.nD Cert.InIdeal.τ).loc Cert.InIdeal.main_arg0))
        (m ((c.tc : Thread Cert.InIdeal.nD Cert.InIdeal.τ).loc Cert.InIdeal.main_arg1)) =
      Cert.InIdeal.Array.G8 m c :=
  rows_ext fun r l => v130_at _ _ r l

theorem same9 (c : Dev Cert.InIdeal.nD) :
    val_main_v133 (F := Ideal) (m ((c.tc : Thread Cert.InIdeal.nD Cert.InIdeal.τ).loc Cert.InIdeal.main_arg0))
        (m ((c.tc : Thread Cert.InIdeal.nD Cert.InIdeal.τ).loc Cert.InIdeal.main_arg1)) =
      Cert.InIdeal.Array.G9 m c :=
  rows_ext fun r l => v133_at _ _ r l

theorem same10 (c : Dev Cert.InIdeal.nD) :
    val_main_v136 (F := Ideal) (m ((c.tc : Thread Cert.InIdeal.nD Cert.InIdeal.τ).loc Cert.InIdeal.main_arg0))
        (m ((c.tc : Thread Cert.InIdeal.nD Cert.InIdeal.τ).loc Cert.InIdeal.main_arg1)) =
      Cert.InIdeal.Array.G10 m c :=
  rows_ext fun r l => v136_at _ _ r l

theorem same11 (c : Dev Cert.InIdeal.nD) :
    val_main_v139 (F := Ideal) (m ((c.tc : Thread Cert.InIdeal.nD Cert.InIdeal.τ).loc Cert.InIdeal.main_arg0))
        (m ((c.tc : Thread Cert.InIdeal.nD Cert.InIdeal.τ).loc Cert.InIdeal.main_arg1)) =
      Cert.InIdeal.Array.G11 m c :=
  rows_ext fun r l => v139_at _ _ r l

theorem same12 (c : Dev Cert.InIdeal.nD) :
    val_main_v140 (F := Ideal) (m ((c.tc : Thread Cert.InIdeal.nD Cert.InIdeal.τ).loc Cert.InIdeal.main_arg0))
        (m ((c.tc : Thread Cert.InIdeal.nD Cert.InIdeal.τ).loc Cert.InIdeal.main_arg1)) =
      Cert.InIdeal.Array.G12 m c :=
  cols_ext fun b l s => v140_at _ _ b l s

theorem same13 (c : Dev Cert.InIdeal.nD) :
    val_main_v142 (F := Ideal) (m ((c.tc : Thread Cert.InIdeal.nD Cert.InIdeal.τ).loc Cert.InIdeal.main_arg0))
        (m ((c.tc : Thread Cert.InIdeal.nD Cert.InIdeal.τ).loc Cert.InIdeal.main_arg1)) =
      Cert.InIdeal.Array.G13 m c :=
  cols_ext fun b l s => v142_at _ _ b l s

theorem same14 (c : Dev Cert.InIdeal.nD) :
    val_main_v143 (F := Ideal) (m ((c.tc : Thread Cert.InIdeal.nD Cert.InIdeal.τ).loc Cert.InIdeal.main_arg0))
        (m ((c.tc : Thread Cert.InIdeal.nD Cert.InIdeal.τ).loc Cert.InIdeal.main_arg1)) =
      Cert.InIdeal.Array.G14 m c :=
  cols_ext fun b l s => v143_at _ _ b l s

theorem same15 (c : Dev Cert.InIdeal.nD) :
    val_main_v145 (F := Ideal) (m ((c.tc : Thread Cert.InIdeal.nD Cert.InIdeal.τ).loc Cert.InIdeal.main_arg0))
        (m ((c.tc : Thread Cert.InIdeal.nD Cert.InIdeal.τ).loc Cert.InIdeal.main_arg1)) =
      Cert.InIdeal.Array.G15 m c :=
  cols_ext fun b l s => v145_at _ _ b l s

theorem same16 (c : Dev Cert.InIdeal.nD) :
    val_main_v147 (F := Ideal) (m ((c.tc : Thread Cert.InIdeal.nD Cert.InIdeal.τ).loc Cert.InIdeal.main_arg0))
        (m ((c.tc : Thread Cert.InIdeal.nD Cert.InIdeal.τ).loc Cert.InIdeal.main_arg1)) =
      Cert.InIdeal.Array.G16 m c :=
  cols_ext fun b l s => v147_at _ _ b l s

theorem same17 (c : Dev Cert.InIdeal.nD) :
    val_main_v149 (F := Ideal) (m ((c.tc : Thread Cert.InIdeal.nD Cert.InIdeal.τ).loc Cert.InIdeal.main_arg0))
        (m ((c.tc : Thread Cert.InIdeal.nD Cert.InIdeal.τ).loc Cert.InIdeal.main_arg1)) =
      Cert.InIdeal.Array.G17 m c :=
  cols_ext fun b l s => v149_at _ _ b l s

set_option maxHeartbeats 2000000 in
/-- The kernel's results are the reference's. -/
theorem algebraic : Cert.algebraic_InIdeal_InRefIdeal := by
  intro m g m' g' _ hagree
  refine ⟨Cert.InIdeal.Array.G5 m, Cert.InIdeal.Array.G6 m, Cert.InIdeal.Array.G7 m, Cert.InIdeal.Array.G8 m, Cert.InIdeal.Array.G9 m, Cert.InIdeal.Array.G10 m, Cert.InIdeal.Array.G11 m, Cert.InIdeal.Array.G12 m, Cert.InIdeal.Array.G13 m, Cert.InIdeal.Array.G14 m, Cert.InIdeal.Array.G15 m, Cert.InIdeal.Array.G16 m, Cert.InIdeal.Array.G17 m, ?_, ?_⟩
  · refine θ_run_mono (θ_run_and (Cert.InIdeal.Gen.run_main m g) (Cert.InIdeal.Gen.frame m g)) fun r hr c => ?_
    have a := (hr.1 c).1
    refine ⟨?_, ?_, ?_, ?_, ?_, ?_, ?_, ?_, ?_, ?_, ?_, ?_, ?_, (hr.2.1 c).1, (hr.2.1 c).2⟩
    · exact (a 5).trans (Cert.InIdeal.Array.final5 m c)
    · exact (a 6).trans (Cert.InIdeal.Array.final6 m c)
    · exact (a 7).trans (Cert.InIdeal.Array.final7 m c)
    · exact (a 8).trans (Cert.InIdeal.Array.final8 m c)
    · exact (a 9).trans (Cert.InIdeal.Array.final9 m c)
    · exact (a 10).trans (Cert.InIdeal.Array.final10 m c)
    · exact (a 11).trans (Cert.InIdeal.Array.final11 m c)
    · exact (a 12).trans (Cert.InIdeal.Array.final12 m c)
    · exact (a 13).trans (Cert.InIdeal.Array.final13 m c)
    · exact (a 14).trans (Cert.InIdeal.Array.final14 m c)
    · exact (a 15).trans (Cert.InIdeal.Array.final15 m c)
    · exact (a 16).trans (Cert.InIdeal.Array.final16 m c)
    · exact (a 17).trans (Cert.InIdeal.Array.final17 m c)
  · refine θ_run_mono (Cert.InRefIdeal.Value.run m' g') fun r hr c => ?_
    obtain ⟨h5, h6, h7, h8, h9, h10, h11, h12, h13, h14, h15, h16, h17, e0, e1⟩ := hr c
    have h := hagree c
    refine ⟨h5.trans ?_, h6.trans ?_, h7.trans ?_, h8.trans ?_, h9.trans ?_, h10.trans ?_, h11.trans ?_, h12.trans ?_, h13.trans ?_, h14.trans ?_, h15.trans ?_, h16.trans ?_, h17.trans ?_, e0, e1⟩
    · rw [val_main_v121_eq, h.1, h.2]
      exact same5 m c
    · rw [val_main_v125_eq, h.1, h.2]
      exact same6 m c
    · rw [val_main_v129_eq, h.1, h.2]
      exact same7 m c
    · rw [val_main_v130_eq, h.1, h.2]
      exact same8 m c
    · rw [val_main_v133_eq, h.1, h.2]
      exact same9 m c
    · rw [val_main_v136_eq, h.1, h.2]
      exact same10 m c
    · rw [val_main_v139_eq, h.1, h.2]
      exact same11 m c
    · rw [val_main_v140_eq, h.1, h.2]
      exact same12 m c
    · rw [val_main_v142_eq, h.1, h.2]
      exact same13 m c
    · rw [val_main_v143_eq, h.1, h.2]
      exact same14 m c
    · rw [val_main_v145_eq, h.1, h.2]
      exact same15 m c
    · rw [val_main_v147_eq, h.1, h.2]
      exact same16 m c
    · rw [val_main_v149_eq, h.1, h.2]
      exact same17 m c

/-- The kernel leaves its arguments alone. -/
theorem frame : Cert.quiescent_In := fun m ρ _ => Cert.In.Gen.frame m ρ

/-- So does the kernel on the extended reals. -/
theorem frameIdeal : Cert.quiescent_InIdeal := fun m ρ _ => Cert.InIdeal.Gen.frame m ρ

/-- So does the reference. -/
theorem frameRef : Cert.quiescent_InRefIdeal := fun m g _ =>
  θ_run_mono (Cert.InRefIdeal.Value.run m g) fun r h =>
    ⟨fun c => (h c).2.2.2.2.2.2.2.2.2.2.2.2.2, sem_eq_zero_of_no_sems (by decide) r.2⟩

/-- Nothing was rewritten. -/
theorem preserves : Cert.preserves_In_InIdeal := trivial

end Cert.Proof.In
-- ==== Proof.MixSIdealFrame.lean ====
/- The merge kernel of the sample rows on its one grid point: what its blocks hold, and that the arguments are left alone. -/
module

public import proofs.«01_k».proof.Proof.Gen.MixSIdeal.Launch
public import proofs.«01_k».proof.Proof.Gen.MixSIdeal.Skeleton
public import proofs.«01_k».proof.Proof.Gen.MixSIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.MixSIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 2000000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 2000000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 8).trans (((dats 0 c).arrAt_in 8 rfl _).trans ((hA c 8).trans (V_main_arg6 m c))),
      ((h c).1 9).trans (((dats 0 c).arrAt_in 9 rfl _).trans ((hA c 9).trans (V_main_arg7 m c))),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c)⟩) h

abbrev r0_0 : Rect S8x1024 := Rect.unit (s := S8x1024) ![0, 0] S8x1024.size inb_S8x1024_S8x1024_0_0
abbrev r0_1 : Rect S1x1024 := Rect.unit (s := S1x1024) ![0, 0] S1x1024.size inb_S1x1024_S1x1024_0_0
abbrev r0_2 : Rect S32x1024 := Rect.unit (s := S32x1024) ![0, 0] S32x1024.size inb_S32x1024_S32x1024_0_0
abbrev r0_3 : Rect S4x256x512 := Rect.unit (s := S4x256x512) ![0, 0, 0] S1x256x512.size inb_S4x256x512_S1x256x512_0_0_0
abbrev r0_4 : Rect S4x256x512 := Rect.unit (s := S4x256x512) ![1, 0, 0] S1x256x512.size inb_S4x256x512_S1x256x512_1_0_0
abbrev r0_5 : Rect S4x256x512 := Rect.unit (s := S4x256x512) ![2, 0, 0] S1x256x512.size inb_S4x256x512_S1x256x512_2_0_0
abbrev r0_6 : Rect S4x256x512 := Rect.unit (s := S4x256x512) ![3, 0, 0] S1x256x512.size inb_S4x256x512_S1x256x512_3_0_0
abbrev r0_7 : Rect S32x512 := Rect.unit (s := S32x512) ![0, 0] S32x512.size inb_S32x512_S32x512_0_0
abbrev r0_8 : Rect S512x1024 := Rect.unit (s := S512x1024) ![0, 0] S512x1024.size inb_S512x1024_S512x1024_0_0
abbrev r0_9 : Rect S1024x1024 := Rect.unit (s := S1024x1024) ![0, 0] S1024x1024.size inb_S1024x1024_S1024x1024_0_0

def k0_pay26 (x0 : Vec F S32x1024 .f32) (x1 : Vec F S32x1024 .f32) (x2 : Vec F S32x1024 .f32) (x3 : Vec F S32x1024 .f32) (x4 : Vec F S32x1024 .f32) (x5 : Vec F S32x1024 .f32) (x6 : Vec F S32x1024 .f32) (x7 : Vec F S32x1024 .f32) (x8 : Vec F S32x512 .f32) (x9 : Vec F S32x1024 .f32) (x10 : Vec F S8x1024 .f32) (x11 : Vec F S1x1024 .f32) (x12 : Vec F S4x256x512 .bf16) (x13 : Vec F S1x1024 .f32) (x14 : Vec F S1x1024 .f32) (x15 : Vec F S1x1024 .f32) (x16 : Vec F S512x1024 .bf16) (x17 : Vec F S1024x1024 .bf16) (x18 : Vec F S1024x1024 .bf16) (x19 : Vec F S1x1024 .f32) (x20 : Vec F S1x1024 .f32) : FVec F S32x1024 .f32 :=
  k0_pay2 (View.ld x10 r0_0) (View.ld x11 r0_1) (View.ld x1 r0_2) (View.ld x2 r0_2) (View.ld x3 r0_2) (View.ld x0 r0_2) -- `v27`
def k0_pay27 (x0 : Vec F S32x1024 .f32) (x1 : Vec F S32x1024 .f32) (x2 : Vec F S32x1024 .f32) (x3 : Vec F S32x1024 .f32) (x4 : Vec F S32x1024 .f32) (x5 : Vec F S32x1024 .f32) (x6 : Vec F S32x1024 .f32) (x7 : Vec F S32x1024 .f32) (x8 : Vec F S32x512 .f32) (x9 : Vec F S32x1024 .f32) (x10 : Vec F S8x1024 .f32) (x11 : Vec F S1x1024 .f32) (x12 : Vec F S4x256x512 .bf16) (x13 : Vec F S1x1024 .f32) (x14 : Vec F S1x1024 .f32) (x15 : Vec F S1x1024 .f32) (x16 : Vec F S512x1024 .bf16) (x17 : Vec F S1024x1024 .bf16) (x18 : Vec F S1024x1024 .bf16) (x19 : Vec F S1x1024 .f32) (x20 : Vec F S1x1024 .f32) : FVec F S32x1024 .bf16 :=
  k0_pay6 (View.ld x10 r0_0) (View.ld x11 r0_1) (View.ld x1 r0_2) (View.ld x2 r0_2) (View.ld x3 r0_2) (View.ld x0 r0_2) -- `v34`
def k0_pay28 (x0 : Vec F S32x1024 .f32) (x1 : Vec F S32x1024 .f32) (x2 : Vec F S32x1024 .f32) (x3 : Vec F S32x1024 .f32) (x4 : Vec F S32x1024 .f32) (x5 : Vec F S32x1024 .f32) (x6 : Vec F S32x1024 .f32) (x7 : Vec F S32x1024 .f32) (x8 : Vec F S32x512 .f32) (x9 : Vec F S32x1024 .f32) (x10 : Vec F S8x1024 .f32) (x11 : Vec F S1x1024 .f32) (x12 : Vec F S4x256x512 .bf16) (x13 : Vec F S1x1024 .f32) (x14 : Vec F S1x1024 .f32) (x15 : Vec F S1x1024 .f32) (x16 : Vec F S512x1024 .bf16) (x17 : Vec F S1024x1024 .bf16) (x18 : Vec F S1024x1024 .bf16) (x19 : Vec F S1x1024 .f32) (x20 : Vec F S1x1024 .f32) : FVec F S32x256 .bf16 :=
  k0_pay7 (View.ld x10 r0_0) (View.ld x11 r0_1) (View.ld x1 r0_2) (View.ld x2 r0_2) (View.ld x3 r0_2) (View.ld x0 r0_2) -- `v35`
def k0_pay29 (x0 : Vec F S32x1024 .f32) (x1 : Vec F S32x1024 .f32) (x2 : Vec F S32x1024 .f32) (x3 : Vec F S32x1024 .f32) (x4 : Vec F S32x1024 .f32) (x5 : Vec F S32x1024 .f32) (x6 : Vec F S32x1024 .f32) (x7 : Vec F S32x1024 .f32) (x8 : Vec F S32x512 .f32) (x9 : Vec F S32x1024 .f32) (x10 : Vec F S8x1024 .f32) (x11 : Vec F S1x1024 .f32) (x12 : Vec F S4x256x512 .bf16) (x13 : Vec F S1x1024 .f32) (x14 : Vec F S1x1024 .f32) (x15 : Vec F S1x1024 .f32) (x16 : Vec F S512x1024 .bf16) (x17 : Vec F S1024x1024 .bf16) (x18 : Vec F S1024x1024 .bf16) (x19 : Vec F S1x1024 .f32) (x20 : Vec F S1x1024 .f32) : FVec F S256x512 .bf16 :=
  k0_pay8 (View.ld x12 r0_3) -- `v37`
def k0_pay30 (x0 : Vec F S32x1024 .f32) (x1 : Vec F S32x1024 .f32) (x2 : Vec F S32x1024 .f32) (x3 : Vec F S32x1024 .f32) (x4 : Vec F S32x1024 .f32) (x5 : Vec F S32x1024 .f32) (x6 : Vec F S32x1024 .f32) (x7 : Vec F S32x1024 .f32) (x8 : Vec F S32x512 .f32) (x9 : Vec F S32x1024 .f32) (x10 : Vec F S8x1024 .f32) (x11 : Vec F S1x1024 .f32) (x12 : Vec F S4x256x512 .bf16) (x13 : Vec F S1x1024 .f32) (x14 : Vec F S1x1024 .f32) (x15 : Vec F S1x1024 .f32) (x16 : Vec F S512x1024 .bf16) (x17 : Vec F S1024x1024 .bf16) (x18 : Vec F S1024x1024 .bf16) (x19 : Vec F S1x1024 .f32) (x20 : Vec F S1x1024 .f32) : FVec F S32x1024 .f32 :=
  k0_pay13 (k0_pay4 (View.ld x14 r0_1)) (k0_pay27 x0 x1 x2 x3 x4 x5 x6 x7 x8 x9 x10 x11 x12 x13 x14 x15 x16 x17 x18 x19 x20) (k0_pay28 x0 x1 x2 x3 x4 x5 x6 x7 x8 x9 x10 x11 x12 x13 x14 x15 x16 x17 x18 x19 x20) (k0_pay29 x0 x1 x2 x3 x4 x5 x6 x7 x8 x9 x10 x11 x12 x13 x14 x15 x16 x17 x18 x19 x20) (View.ld x12 r0_4) (View.ld x12 r0_5) (View.ld x12 r0_6) -- `v66`
def k0_pay31 (x0 : Vec F S32x1024 .f32) (x1 : Vec F S32x1024 .f32) (x2 : Vec F S32x1024 .f32) (x3 : Vec F S32x1024 .f32) (x4 : Vec F S32x1024 .f32) (x5 : Vec F S32x1024 .f32) (x6 : Vec F S32x1024 .f32) (x7 : Vec F S32x1024 .f32) (x8 : Vec F S32x512 .f32) (x9 : Vec F S32x1024 .f32) (x10 : Vec F S8x1024 .f32) (x11 : Vec F S1x1024 .f32) (x12 : Vec F S4x256x512 .bf16) (x13 : Vec F S1x1024 .f32) (x14 : Vec F S1x1024 .f32) (x15 : Vec F S1x1024 .f32) (x16 : Vec F S512x1024 .bf16) (x17 : Vec F S1024x1024 .bf16) (x18 : Vec F S1024x1024 .bf16) (x19 : Vec F S1x1024 .f32) (x20 : Vec F S1x1024 .f32) : FVec F S32x1024 .f32 :=
  k0_pay14 (k0_pay3 (View.ld x13 r0_1)) (k0_pay27 x0 x1 x2 x3 x4 x5 x6 x7 x8 x9 x10 x11 x12 x13 x14 x15 x16 x17 x18 x19 x20) (k0_pay28 x0 x1 x2 x3 x4 x5 x6 x7 x8 x9 x10 x11 x12 x13 x14 x15 x16 x17 x18 x19 x20) (k0_pay29 x0 x1 x2 x3 x4 x5 x6 x7 x8 x9 x10 x11 x12 x13 x14 x15 x16 x17 x18 x19 x20) (View.ld x12 r0_4) (View.ld x12 r0_5) (View.ld x12 r0_6) -- `v68`
def k0_pay32 (x0 : Vec F S32x1024 .f32) (x1 : Vec F S32x1024 .f32) (x2 : Vec F S32x1024 .f32) (x3 : Vec F S32x1024 .f32) (x4 : Vec F S32x1024 .f32) (x5 : Vec F S32x1024 .f32) (x6 : Vec F S32x1024 .f32) (x7 : Vec F S32x1024 .f32) (x8 : Vec F S32x512 .f32) (x9 : Vec F S32x1024 .f32) (x10 : Vec F S8x1024 .f32) (x11 : Vec F S1x1024 .f32) (x12 : Vec F S4x256x512 .bf16) (x13 : Vec F S1x1024 .f32) (x14 : Vec F S1x1024 .f32) (x15 : Vec F S1x1024 .f32) (x16 : Vec F S512x1024 .bf16) (x17 : Vec F S1024x1024 .bf16) (x18 : Vec F S1024x1024 .bf16) (x19 : Vec F S1x1024 .f32) (x20 : Vec F S1x1024 .f32) : FVec F S1x1024 .f32 :=
  k0_pay15 (k0_pay5 (View.ld x15 r0_1)) -- `v78`
def k0_pay33 (x0 : Vec F S32x1024 .f32) (x1 : Vec F S32x1024 .f32) (x2 : Vec F S32x1024 .f32) (x3 : Vec F S32x1024 .f32) (x4 : Vec F S32x1024 .f32) (x5 : Vec F S32x1024 .f32) (x6 : Vec F S32x1024 .f32) (x7 : Vec F S32x1024 .f32) (x8 : Vec F S32x512 .f32) (x9 : Vec F S32x1024 .f32) (x10 : Vec F S8x1024 .f32) (x11 : Vec F S1x1024 .f32) (x12 : Vec F S4x256x512 .bf16) (x13 : Vec F S1x1024 .f32) (x14 : Vec F S1x1024 .f32) (x15 : Vec F S1x1024 .f32) (x16 : Vec F S512x1024 .bf16) (x17 : Vec F S1024x1024 .bf16) (x18 : Vec F S1024x1024 .bf16) (x19 : Vec F S1x1024 .f32) (x20 : Vec F S1x1024 .f32) : FVec F S1x1024 .f32 :=
  k0_pay16 (F := F) -- `v79`
def k0_pay34 (x0 : Vec F S32x1024 .f32) (x1 : Vec F S32x1024 .f32) (x2 : Vec F S32x1024 .f32) (x3 : Vec F S32x1024 .f32) (x4 : Vec F S32x1024 .f32) (x5 : Vec F S32x1024 .f32) (x6 : Vec F S32x1024 .f32) (x7 : Vec F S32x1024 .f32) (x8 : Vec F S32x512 .f32) (x9 : Vec F S32x1024 .f32) (x10 : Vec F S8x1024 .f32) (x11 : Vec F S1x1024 .f32) (x12 : Vec F S4x256x512 .bf16) (x13 : Vec F S1x1024 .f32) (x14 : Vec F S1x1024 .f32) (x15 : Vec F S1x1024 .f32) (x16 : Vec F S512x1024 .bf16) (x17 : Vec F S1024x1024 .bf16) (x18 : Vec F S1024x1024 .bf16) (x19 : Vec F S1x1024 .f32) (x20 : Vec F S1x1024 .f32) : FVec F S32x1024 .f32 :=
  k0_pay17 (k0_pay26 x0 x1 x2 x3 x4 x5 x6 x7 x8 x9 x10 x11 x12 x13 x14 x15 x16 x17 x18 x19 x20) (k0_pay30 x0 x1 x2 x3 x4 x5 x6 x7 x8 x9 x10 x11 x12 x13 x14 x15 x16 x17 x18 x19 x20) (k0_pay31 x0 x1 x2 x3 x4 x5 x6 x7 x8 x9 x10 x11 x12 x13 x14 x15 x16 x17 x18 x19 x20) (k0_pay32 x0 x1 x2 x3 x4 x5 x6 x7 x8 x9 x10 x11 x12 x13 x14 x15 x16 x17 x18 x19 x20) (k0_pay33 x0 x1 x2 x3 x4 x5 x6 x7 x8 x9 x10 x11 x12 x13 x14 x15 x16 x17 x18 x19 x20) (View.ld x4 r0_2) -- `v99`
def k0_pay35 (x0 : Vec F S32x1024 .f32) (x1 : Vec F S32x1024 .f32) (x2 : Vec F S32x1024 .f32) (x3 : Vec F S32x1024 .f32) (x4 : Vec F S32x1024 .f32) (x5 : Vec F S32x1024 .f32) (x6 : Vec F S32x1024 .f32) (x7 : Vec F S32x1024 .f32) (x8 : Vec F S32x512 .f32) (x9 : Vec F S32x1024 .f32) (x10 : Vec F S8x1024 .f32) (x11 : Vec F S1x1024 .f32) (x12 : Vec F S4x256x512 .bf16) (x13 : Vec F S1x1024 .f32) (x14 : Vec F S1x1024 .f32) (x15 : Vec F S1x1024 .f32) (x16 : Vec F S512x1024 .bf16) (x17 : Vec F S1024x1024 .bf16) (x18 : Vec F S1024x1024 .bf16) (x19 : Vec F S1x1024 .f32) (x20 : Vec F S1x1024 .f32) : FVec F S32x1024 .f32 :=
  k0_pay18 (View.ld x5 r0_2) -- `v103`
def k0_pay36 (x0 : Vec F S32x1024 .f32) (x1 : Vec F S32x1024 .f32) (x2 : Vec F S32x1024 .f32) (x3 : Vec F S32x1024 .f32) (x4 : Vec F S32x1024 .f32) (x5 : Vec F S32x1024 .f32) (x6 : Vec F S32x1024 .f32) (x7 : Vec F S32x1024 .f32) (x8 : Vec F S32x512 .f32) (x9 : Vec F S32x1024 .f32) (x10 : Vec F S8x1024 .f32) (x11 : Vec F S1x1024 .f32) (x12 : Vec F S4x256x512 .bf16) (x13 : Vec F S1x1024 .f32) (x14 : Vec F S1x1024 .f32) (x15 : Vec F S1x1024 .f32) (x16 : Vec F S512x1024 .bf16) (x17 : Vec F S1024x1024 .bf16) (x18 : Vec F S1024x1024 .bf16) (x19 : Vec F S1x1024 .f32) (x20 : Vec F S1x1024 .f32) : FVec F S32x1024 .f32 :=
  k0_pay19 (View.ld x6 r0_2) -- `v105`
def k0_pay37 (x0 : Vec F S32x1024 .f32) (x1 : Vec F S32x1024 .f32) (x2 : Vec F S32x1024 .f32) (x3 : Vec F S32x1024 .f32) (x4 : Vec F S32x1024 .f32) (x5 : Vec F S32x1024 .f32) (x6 : Vec F S32x1024 .f32) (x7 : Vec F S32x1024 .f32) (x8 : Vec F S32x512 .f32) (x9 : Vec F S32x1024 .f32) (x10 : Vec F S8x1024 .f32) (x11 : Vec F S1x1024 .f32) (x12 : Vec F S4x256x512 .bf16) (x13 : Vec F S1x1024 .f32) (x14 : Vec F S1x1024 .f32) (x15 : Vec F S1x1024 .f32) (x16 : Vec F S512x1024 .bf16) (x17 : Vec F S1024x1024 .bf16) (x18 : Vec F S1024x1024 .bf16) (x19 : Vec F S1x1024 .f32) (x20 : Vec F S1x1024 .f32) : FVec F S32x1024 .f32 :=
  k0_pay20 (View.ld x7 r0_2) -- `v107`
def k0_pay38 (x0 : Vec F S32x1024 .f32) (x1 : Vec F S32x1024 .f32) (x2 : Vec F S32x1024 .f32) (x3 : Vec F S32x1024 .f32) (x4 : Vec F S32x1024 .f32) (x5 : Vec F S32x1024 .f32) (x6 : Vec F S32x1024 .f32) (x7 : Vec F S32x1024 .f32) (x8 : Vec F S32x512 .f32) (x9 : Vec F S32x1024 .f32) (x10 : Vec F S8x1024 .f32) (x11 : Vec F S1x1024 .f32) (x12 : Vec F S4x256x512 .bf16) (x13 : Vec F S1x1024 .f32) (x14 : Vec F S1x1024 .f32) (x15 : Vec F S1x1024 .f32) (x16 : Vec F S512x1024 .bf16) (x17 : Vec F S1024x1024 .bf16) (x18 : Vec F S1024x1024 .bf16) (x19 : Vec F S1x1024 .f32) (x20 : Vec F S1x1024 .f32) : FVec F S32x1024 .f32 :=
  k0_pay23 (View.ld x5 r0_2) -- `v115`

def out0_21 (x0 : Vec F S32x1024 .f32) (x1 : Vec F S32x1024 .f32) (x2 : Vec F S32x1024 .f32) (x3 : Vec F S32x1024 .f32) (x4 : Vec F S32x1024 .f32) (x5 : Vec F S32x1024 .f32) (x6 : Vec F S32x1024 .f32) (x7 : Vec F S32x1024 .f32) (x8 : Vec F S32x512 .f32) (x9 : Vec F S32x1024 .f32) (x10 : Vec F S8x1024 .f32) (x11 : Vec F S1x1024 .f32) (x12 : Vec F S4x256x512 .bf16) (x13 : Vec F S1x1024 .f32) (x14 : Vec F S1x1024 .f32) (x15 : Vec F S1x1024 .f32) (x16 : Vec F S512x1024 .bf16) (x17 : Vec F S1024x1024 .bf16) (x18 : Vec F S1024x1024 .bf16) (x19 : Vec F S1x1024 .f32) (x20 : Vec F S1x1024 .f32) : Vec F S32x1024 .f32 :=
  View.canon [⟨r0_2, k0_pay1 (k0_pay21 (View.ld x19 r0_1)) (k0_pay22 (View.ld x20 r0_1)) (k0_pay24 (k0_pay34 x0 x1 x2 x3 x4 x5 x6 x7 x8 x9 x10 x11 x12 x13 x14 x15 x16 x17 x18 x19 x20) (View.ld x9 r0_2) (k0_pay35 x0 x1 x2 x3 x4 x5 x6 x7 x8 x9 x10 x11 x12 x13 x14 x15 x16 x17 x18 x19 x20) (k0_pay36 x0 x1 x2 x3 x4 x5 x6 x7 x8 x9 x10 x11 x12 x13 x14 x15 x16 x17 x18 x19 x20) (k0_pay37 x0 x1 x2 x3 x4 x5 x6 x7 x8 x9 x10 x11 x12 x13 x14 x15 x16 x17 x18 x19 x20) (View.ld x8 r0_7) (k0_pay38 x0 x1 x2 x3 x4 x5 x6 x7 x8 x9 x10 x11 x12 x13 x14 x15 x16 x17 x18 x19 x20) (Scalar.ofBits .f32 0x3FCC422A#32) (View.ld x16 r0_8) (View.ld x17 r0_9) (View.ld x18 r0_9)) (k0_pay25 (k0_pay34 x0 x1 x2 x3 x4 x5 x6 x7 x8 x9 x10 x11 x12 x13 x14 x15 x16 x17 x18 x19 x20) (View.ld x9 r0_2) (k0_pay35 x0 x1 x2 x3 x4 x5 x6 x7 x8 x9 x10 x11 x12 x13 x14 x15 x16 x17 x18 x19 x20) (k0_pay36 x0 x1 x2 x3 x4 x5 x6 x7 x8 x9 x10 x11 x12 x13 x14 x15 x16 x17 x18 x19 x20) (k0_pay37 x0 x1 x2 x3 x4 x5 x6 x7 x8 x9 x10 x11 x12 x13 x14 x15 x16 x17 x18 x19 x20) (View.ld x8 r0_7) (k0_pay38 x0 x1 x2 x3 x4 x5 x6 x7 x8 x9 x10 x11 x12 x13 x14 x15 x16 x17 x18 x19 x20) (Scalar.ofBits .f32 0x3FCC422A#32) (View.ld x16 r0_8) (View.ld x17 r0_9) (View.ld x18 r0_9))⟩]

theorem cover0_21 (p0 : Vec F S32x1024 .f32) (y : S32x1024.Idx) :
    ∃ pc ∈ ([⟨r0_2, p0⟩] : List (View.Piece (Elt F) S32x1024 .f32)), y ∈ pc.1.set :=
  View.cover_of_tiled [⟨r0_2, p0⟩] S32x1024.size (by rfl) y

def out0_22 (x0 : Vec F S32x1024 .f32) (x1 : Vec F S32x1024 .f32) (x2 : Vec F S32x1024 .f32) (x3 : Vec F S32x1024 .f32) (x4 : Vec F S32x1024 .f32) (x5 : Vec F S32x1024 .f32) (x6 : Vec F S32x1024 .f32) (x7 : Vec F S32x1024 .f32) (x8 : Vec F S32x512 .f32) (x9 : Vec F S32x1024 .f32) (x10 : Vec F S8x1024 .f32) (x11 : Vec F S1x1024 .f32) (x12 : Vec F S4x256x512 .bf16) (x13 : Vec F S1x1024 .f32) (x14 : Vec F S1x1024 .f32) (x15 : Vec F S1x1024 .f32) (x16 : Vec F S512x1024 .bf16) (x17 : Vec F S1024x1024 .bf16) (x18 : Vec F S1024x1024 .bf16) (x19 : Vec F S1x1024 .f32) (x20 : Vec F S1x1024 .f32) : Vec F S32x1024 .f32 :=
  View.canon [⟨r0_2, k0_pay17 (k0_pay26 x0 x1 x2 x3 x4 x5 x6 x7 x8 x9 x10 x11 x12 x13 x14 x15 x16 x17 x18 x19 x20) (k0_pay30 x0 x1 x2 x3 x4 x5 x6 x7 x8 x9 x10 x11 x12 x13 x14 x15 x16 x17 x18 x19 x20) (k0_pay31 x0 x1 x2 x3 x4 x5 x6 x7 x8 x9 x10 x11 x12 x13 x14 x15 x16 x17 x18 x19 x20) (k0_pay32 x0 x1 x2 x3 x4 x5 x6 x7 x8 x9 x10 x11 x12 x13 x14 x15 x16 x17 x18 x19 x20) (k0_pay33 x0 x1 x2 x3 x4 x5 x6 x7 x8 x9 x10 x11 x12 x13 x14 x15 x16 x17 x18 x19 x20) (View.ld x4 r0_2)⟩]

theorem cover0_22 (p0 : Vec F S32x1024 .f32) (y : S32x1024.Idx) :
    ∃ pc ∈ ([⟨r0_2, p0⟩] : List (View.Piece (Elt F) S32x1024 .f32)), y ∈ pc.1.set :=
  View.cover_of_tiled [⟨r0_2, p0⟩] S32x1024.size (by rfl) y

set_option maxHeartbeats 2000000 in
theorem sound_kernel (c : Dev nD) (E : Set ℕ) (i : grid0.Coords) (arg1 : Memref sig .tc .vmem S32x1024 .f32) (harg1 : arg1.IsWhole) (arg2 : Memref sig .tc .vmem S32x1024 .f32) (harg2 : arg2.IsWhole) (arg3 : Memref sig .tc .vmem S32x1024 .f32) (harg3 : arg3.IsWhole) (arg4 : Memref sig .tc .vmem S32x1024 .f32) (harg4 : arg4.IsWhole) (arg5 : Memref sig .tc .vmem S32x1024 .f32) (harg5 : arg5.IsWhole) (arg6 : Memref sig .tc .vmem S32x1024 .f32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S32x512 .f32) (harg9 : arg9.IsWhole) (arg10 : Memref sig .tc .vmem S32x1024 .f32) (harg10 : arg10.IsWhole) (arg11 : Memref sig .tc .vmem S8x1024 .f32) (harg11 : arg11.IsWhole) (arg12 : Memref sig .tc .vmem S1x1024 .f32) (harg12 : arg12.IsWhole) (arg13 : Memref sig .tc .vmem S4x256x512 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S512x1024 .bf16) (harg17 : arg17.IsWhole) (arg18 : Memref sig .tc .vmem S1024x1024 .bf16) (harg18 : arg18.IsWhole) (arg19 : Memref sig .tc .vmem S1024x1024 .bf16) (harg19 : arg19.IsWhole) (arg20 : Memref sig .tc .vmem S1x1024 .f32) (harg20 : arg20.IsWhole) (arg21 : Memref sig .tc .vmem S1x1024 .f32) (harg21 : arg21.IsWhole) (arg22 : Memref sig .tc .vmem S32x1024 .f32) (harg22 : arg22.IsWhole) (arg23 : Memref sig .tc .vmem S32x1024 .f32) (harg23 : arg23.IsWhole)
    (x0 : Vec F S32x1024 .f32) (x1 : Vec F S32x1024 .f32) (x2 : Vec F S32x1024 .f32) (x3 : Vec F S32x1024 .f32) (x4 : Vec F S32x1024 .f32) (x5 : Vec F S32x1024 .f32) (x6 : Vec F S32x1024 .f32) (x7 : Vec F S32x1024 .f32) (x8 : Vec F S32x512 .f32) (x9 : Vec F S32x1024 .f32) (x10 : Vec F S8x1024 .f32) (x11 : Vec F S1x1024 .f32) (x12 : Vec F S4x256x512 .bf16) (x13 : Vec F S1x1024 .f32) (x14 : Vec F S1x1024 .f32) (x15 : Vec F S1x1024 .f32) (x16 : Vec F S512x1024 .bf16) (x17 : Vec F S1024x1024 .bf16) (x18 : Vec F S1024x1024 .bf16) (x19 : Vec F S1x1024 .f32) (x20 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare (out0_21 x0 x1 x2 x3 x4 x5 x6 x7 x8 x9 x10 x11 x12 x13 x14 x15 x16 x17 x18 x19 x20) ∗ owns (c : Thread nD τ) arg23 fullShare (out0_22 x0 x1 x2 x3 x4 x5 x6 x7 x8 x9 x10 x11 x12 x13 x14 x15 x16 x17 x18 x19 x20)) -∗ K ⟨⟩))
      ⊢ wp frame (wpE (defs₀ (F := F)) Variants.none c none) E (cc0_mix_sample i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_mix_sample_eq_skeleton]; unfold cc0_mix_sample_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, Hk⟩
  subst hf0 hf1 hf2 hf3 hf4 hf5 hf6 hf7 hf8 hf9 hf10 hf11 hf12 hf13 hf14 hf15 hf16 hf17 hf18 hf19 hf20
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists _; isplitr
    swap; · iexact H21
    ipureintro
    refine (View.read_writes_eq_canon _ _ _ (cover0_21 _)).trans ?_
    rfl
  iexists _; isplitr
  swap; · iexact H22
  ipureintro
  refine (View.read_writes_eq_canon _ _ _ (cover0_22 _)).trans ?_
  rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨_ + 23, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexists _; iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

theorem defs₀_row (t : Fin cfg0.N) :
    defs₀ (F := F) .tc cfg0.body (cfg0.bodyArgs t (cfg0.slots t)) = bodyAt0 t := by
  unfold defs₀; rw [Defs.onTc_tc]

set_option maxHeartbeats 2000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 2000000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_and (unchanged m ρ) ((θ_run defs _ _).mono (fun _ h => h.2) (run_main_quiescent m ρ))

end Cert.MixSIdeal.Gen

end
-- ==== Proof.Merge.lean ====
/- The recurrence and the merge of a sample row as functions of real-valued tables: the four-tap convolution, the two
   gates, the decay, the state one step on, the gated merge of the two branches, and the row before the layer norm. -/
module

public import proofs.«01_k».proof.Proof.Layer

@[expose] public section

noncomputable section

namespace Cert.Merge

open Idealize.ShloMosaic Idealize.SL.Sem Cert.Layer Cert.Scalars

/-- The four-tap causal convolution of a row: the bias, three earlier tokens, the present one. -/
def convolved (w : Fin 4 → Fin 1024 → EReal) (cb c0 c1 c2 x : Fin 1024 → EReal) (l : Fin 1024) : EReal :=
  cb l + w 0 l * c0 l + w 1 l * c1 l + w 2 l * c2 l + w 3 l * x l

/-- What a gate squashes: the row times the block of 64 columns that feature `l` lies in, plus the bias. -/
def gateIn (xc : Fin 1024 → EReal) (w : Fin 16 → Fin 64 → Fin 64 → EReal) (b : Fin 1024 → EReal) (l : Fin 1024) : EReal :=
  ∑ d : Fin 64, w ⟨l.val / 64, by omega⟩ d ⟨l.val % 64, by omega⟩ * xc ⟨l.val / 64 * 64 + d.val, by omega⟩ + b l

/-- The softplus, as both sides form it. -/
def softplus (x : EReal) : EReal := max x 0 + Ideal.log1p (Ideal.exp (-(max x (-x))))

/-- The logarithm of the decay: eight times the gate times the softplus, negated. -/
def logDecay (z lam : EReal) : EReal := ((-8 : ℝ) : EReal) * sigmoid z * softplus (-lam)

/-- The state one step on. -/
def stepped (z zi lam xc h : EReal) : EReal :=
  Ideal.exp (logDecay z lam) * h
    + Ideal.sqrt (-(Ideal.expm1 (((2 : ℝ) : EReal) * logDecay z lam))) * sigmoid zi * xc

/-- The tanh form of the Gaussian error unit. -/
def gelu (x : EReal) : EReal :=
  x * (half * (1 + Ideal.tanh (Ideal.ofBits .f32 0x3F4C422A#32 * (x + Ideal.ofBits .f32 0x3D372713#32 * (x * x * x)))))

/-- The two branches of a row, each under its gate, summed. -/
def merged (o : Fin 512 → EReal) (y : Fin 1024 → EReal) (wa : Fin 512 → Fin 1024 → EReal)
    (wr : Fin 1024 → Fin 1024 → EReal) (ga gb : Fin 1024 → EReal) (l : Fin 1024) : EReal :=
  sigmoid (ga l) * ∑ k, o k * wa k l + sigmoid (gb l) * ∑ k, y k * wr k l

/-- The row before the layer norm: the residual plus the merged row through the output weight. -/
def mixRow (h1 m : Fin 1024 → EReal) (wo : Fin 1024 → Fin 1024 → EReal) (l : Fin 1024) : EReal :=
  Ideal.ofBits .f32 0x3F9837F0#32 * h1 l + ∑ k, m k * wo k l

/-- The state of a row one step on. -/
def stateRow (xc h lam ba bx : Fin 1024 → EReal) (wa wx : Fin 16 → Fin 64 → Fin 64 → EReal) (l : Fin 1024) : EReal :=
  stepped (gateIn xc wa ba l) (gateIn xc wx bx l) (lam l) (xc l) (h l)

/-- The row that leaves the merge, from the state. -/
def resultRow (hs gr ga gb h1 : Fin 1024 → EReal) (o : Fin 512 → EReal) (wa : Fin 512 → Fin 1024 → EReal)
    (wr wo : Fin 1024 → Fin 1024 → EReal) (g2 b2 : Fin 1024 → EReal) (l : Fin 1024) : EReal :=
  rowNorm (mixRow h1 (merged o (fun k => hs k * gelu (gr k)) wa wr ga gb) wo) g2 b2 l

end Cert.Merge
-- ==== Proof.MergeEq.lean ====
/- The equations between the merge kernel's scalar forms and the reference's, for all extended reals. -/
module

public import proofs.«01_k».proof.Proof.Merge

@[expose] public section

noncomputable section

namespace Cert.Merge

open Idealize.ShloMosaic Idealize.SL.Sem Cert.Layer Cert.Scalars

/-- The logarithm of the decay as the kernel forms it; `t` is one plus the gate's tanh. -/
def kDecay (t lam : EReal) : EReal := t * (((-4 : ℝ) : EReal) * softplus (-lam))

/-- The state one step on as the kernel forms it, from the logarithm `L` of the decay. -/
def kStepped (L ti xc h : EReal) : EReal :=
  Ideal.exp L * h
    + Ideal.sqrt (((-(1 / 4) : ℝ) : EReal) * Ideal.tanh L * (1 + Ideal.exp L * Ideal.exp L)) * (1 + ti) * xc

/-- The kernel's cubic coefficient. -/
def rootCubic : EReal := ((8 * ((6693141 / 8388608) * (12003091 / 268435456)) : ℝ) : EReal)

/-- The error unit as the kernel forms it, of half the argument. -/
def kGelu (x : EReal) : EReal :=
  x * (1 + Ideal.tanh (x * (Ideal.ofBits .f32 0x3FCC422A#32 + rootCubic * (x * x))))

/-- The gated merge as the kernel forms it. -/
def kMerged (o : Fin 512 → EReal) (y : Fin 1024 → EReal) (wa : Fin 512 → Fin 1024 → EReal)
    (wr : Fin 1024 → Fin 1024 → EReal) (ga gb : Fin 1024 → EReal) (l : Fin 1024) : EReal :=
  (1 + Ideal.tanh (ga l)) * ∑ k, o k * wa k l + (1 + Ideal.tanh (gb l)) * ∑ k, y k * wr k l

/-- What a gate squashes as the kernel forms it: a group of 256 columns times a block-diagonal weight. -/
def kGateIn (xc : Fin 1024 → EReal) (w : Fin 4 → Fin 256 → Fin 256 → EReal) (b : Fin 1024 → EReal) (l : Fin 1024) : EReal :=
  ∑ k : Fin 256, xc ⟨l.val / 256 * 256 + k.val, by omega⟩ * w ⟨l.val / 256, by omega⟩ k ⟨l.val % 256, by omega⟩ + b l

theorem decay_eq (z lam : EReal) : kDecay (1 + Ideal.tanh (half * z)) lam = logDecay z lam := by
  unfold kDecay logDecay
  rw [sigmoid_eq', ← mul_assoc, ← mul_assoc, ← EReal.coe_mul, mul_comm (1 + _)]
  norm_num

theorem exp_nonneg (x : EReal) : 0 ≤ Ideal.exp x := by
  induction x using EReal.rec with
  | bot => exact le_refl _
  | top => exact le_top
  | coe r => exact EReal.coe_nonneg.mpr (Real.exp_pos r).le

theorem log1p_nonneg (x : EReal) (h : 0 ≤ x) : 0 ≤ Ideal.log1p x := by
  unfold Ideal.log1p
  induction x using EReal.rec with
  | bot => simp at h
  | top => exact le_top
  | coe r =>
    have hr : (0 : ℝ) ≤ r := EReal.coe_nonneg.mp h
    rw [← EReal.coe_one, ← EReal.coe_add]
    show (0 : EReal) ≤ if 1 + r ≤ 0 then ⊥ else ((Real.log (1 + r) : ℝ) : EReal)
    rw [if_neg (by linarith)]
    exact EReal.coe_nonneg.mpr (Real.log_nonneg (by linarith))

theorem softplus_nonneg (x : EReal) : 0 ≤ softplus x :=
  add_nonneg (le_max_right _ _) (log1p_nonneg _ (exp_nonneg _))

theorem logDecay_nonpos (z lam : EReal) : logDecay z lam ≤ 0 := by
  have h1 : 0 ≤ sigmoid z := by
    rw [sigmoid_eq']; exact mul_nonneg half_nonneg (tanh_bounds _).1
  have h2 : logDecay z lam = -(((8 : ℝ) : EReal) * (sigmoid z * softplus (-lam))) := by
    unfold logDecay
    rw [EReal.coe_neg, EReal.neg_mul, EReal.neg_mul, mul_assoc]
  rw [h2, EReal.neg_le_zero]
  exact mul_nonneg (by exact_mod_cast (by norm_num : (0 : ℝ) ≤ 8)) (mul_nonneg h1 (softplus_nonneg _))

/-- The kernel's root of what the decay leaves is half the reference's. -/
theorem root_eq (L : EReal) (hL : L ≤ 0) :
    Ideal.sqrt (((-(1 / 4) : ℝ) : EReal) * Ideal.tanh L * (1 + Ideal.exp L * Ideal.exp L))
      = half * Ideal.sqrt (-(Ideal.expm1 (((2 : ℝ) : EReal) * L))) := by
  unfold half Ideal.expm1
  induction L using EReal.rec with
  | bot =>
    rw [EReal.coe_mul_bot_of_pos (by norm_num)]
    have h1 : Ideal.exp ⊥ = ((0 : ℝ) : EReal) := rfl
    have h2 : Ideal.tanh ⊥ = ((-1 : ℝ) : EReal) := rfl
    rw [h1, h2, ← EReal.coe_one, ← EReal.coe_mul, ← EReal.coe_mul, ← EReal.coe_add, ← EReal.coe_mul, ← EReal.coe_sub,
      ← EReal.coe_neg]
    show (if _ then _ else ((Real.sqrt _ : ℝ) : EReal)) = _ * (if _ then _ else ((Real.sqrt _ : ℝ) : EReal))
    rw [if_neg (by norm_num), if_neg (by norm_num), ← EReal.coe_mul]
    congr 1
    rw [show (-(1 / 4) * -1 * (1 + 0 * 0) : ℝ) = (1 / 2) ^ 2 by norm_num, Real.sqrt_sq (by norm_num)]
    norm_num
  | top => exact absurd hL (by simp)
  | coe r =>
    have hr : r ≤ 0 := by exact_mod_cast hL
    have e1 : Ideal.exp (r : EReal) = ((Real.exp r : ℝ) : EReal) := rfl
    have e2 : Ideal.tanh (r : EReal) = ((Real.tanh r : ℝ) : EReal) := rfl
    have e3 : Ideal.exp (((2 : ℝ) : EReal) * (r : EReal)) = ((Real.exp (2 * r) : ℝ) : EReal) := rfl
    rw [e1, e2, e3, ← EReal.coe_one, ← EReal.coe_mul, ← EReal.coe_mul, ← EReal.coe_add, ← EReal.coe_mul,
      ← EReal.coe_sub, ← EReal.coe_neg]
    have hv : (-(1 / 4) * Real.tanh r * (1 + Real.exp r * Real.exp r) : ℝ) = (1 / 2) ^ 2 * -(Real.exp (2 * r) - 1) := by
      have hp := Real.exp_pos r
      have e4 : Real.exp (2 * r) = Real.exp r * Real.exp r := by rw [← Real.exp_add]; congr 1; ring
      have e5 : Real.exp (-r) = (Real.exp r)⁻¹ := Real.exp_neg r
      rw [e4, Real.tanh_eq_sinh_div_cosh, Real.sinh_eq, Real.cosh_eq, e5]
      have hn : Real.exp r * Real.exp r + 1 ≠ 0 := by positivity
      field_simp
      ring
    have hs : (0 : ℝ) ≤ -(Real.exp (2 * r) - 1) := by
      have := Real.exp_le_one_iff.mpr (by linarith : 2 * r ≤ 0)
      linarith
    show (if _ then _ else ((Real.sqrt _ : ℝ) : EReal)) = _ * (if _ then _ else ((Real.sqrt _ : ℝ) : EReal))
    rw [hv, if_neg (not_lt.mpr (mul_nonneg (by norm_num) hs)), if_neg (not_lt.mpr hs), ← EReal.coe_mul]
    congr 1
    rw [Real.sqrt_mul (by norm_num), Real.sqrt_sq (by norm_num)]

theorem stepped_eq (z zi lam xc h : EReal) :
    kStepped (kDecay (1 + Ideal.tanh (half * z)) lam) (Ideal.tanh (half * zi)) xc h = stepped z zi lam xc h := by
  unfold kStepped stepped
  rw [decay_eq, root_eq _ (logDecay_nonpos _ _), sigmoid_eq' zi, ← mul_assoc _ half, mul_comm half (Ideal.sqrt _)]

theorem big_eq : Ideal.ofBits .f32 0x3FCC422A#32 = ((2 * (6693141 / 8388608) : ℝ) : EReal) := by
  simp [Ideal.ofBits, Ideal.ieee, -EReal.coe_mul]; norm_num

theorem root_two_pi : Ideal.ofBits .f32 0x3F4C422A#32 = ((6693141 / 8388608 : ℝ) : EReal) := by
  simp [Ideal.ofBits, Ideal.ieee, -EReal.coe_mul]; norm_num

theorem cubic_eq : Ideal.ofBits .f32 0x3D372713#32 = ((12003091 / 268435456 : ℝ) : EReal) := by
  simp [Ideal.ofBits, Ideal.ieee, -EReal.coe_mul]; norm_num

/-- What the tanh of the error unit takes. -/
theorem gelu_arg (x : EReal) : half * x * (Ideal.ofBits .f32 0x3FCC422A#32 + rootCubic * (half * x * (half * x)))
    = Ideal.ofBits .f32 0x3F4C422A#32 * (x + Ideal.ofBits .f32 0x3D372713#32 * (x * x * x)) := by
  rw [big_eq, root_two_pi, cubic_eq]
  unfold rootCubic half
  induction x using EReal.rec with
  | bot =>
    rw [EReal.coe_mul_bot_of_pos (by norm_num), EReal.bot_mul_bot, EReal.coe_mul_top_of_pos (by norm_num),
      EReal.coe_add_top, EReal.bot_mul_top, EReal.top_mul_bot, EReal.coe_mul_bot_of_pos (by norm_num), EReal.bot_add,
      EReal.coe_mul_bot_of_pos (by norm_num)]
  | top =>
    rw [EReal.coe_mul_top_of_pos (by norm_num), EReal.top_mul_top, EReal.coe_mul_top_of_pos (by norm_num),
      EReal.coe_add_top, EReal.top_mul_top, EReal.coe_mul_top_of_pos (by norm_num), EReal.top_add_top,
      EReal.coe_mul_top_of_pos (by norm_num)]
  | coe r =>
    simp only [← EReal.coe_mul, ← EReal.coe_add]
    congr 1
    ring

theorem gelu_eq (x : EReal) : kGelu (half * x) = gelu x := by
  unfold kGelu gelu
  rw [gelu_arg, mul_comm half x, mul_assoc]

/-- Half a weight in a sum of products. -/
theorem half_sum {n : Nat} (o w : Fin n → EReal) : ∑ k, o k * (half * w k) = half * ∑ k, o k * w k := by
  rw [mul_sum' _ _ half_nonneg half_ne_top]
  exact Finset.sum_congr rfl fun k _ => mul_left_comm _ _ _

theorem merged_eq (o : Fin 512 → EReal) (y : Fin 1024 → EReal) (wa : Fin 512 → Fin 1024 → EReal)
    (wr : Fin 1024 → Fin 1024 → EReal) (ga gb : Fin 1024 → EReal) (l : Fin 1024) :
    kMerged o y (fun k j => half * wa k j) (fun k j => half * wr k j) (fun k => half * ga k) (fun k => half * gb k) l
      = merged o y wa wr ga gb l := by
  unfold kMerged merged
  rw [half_sum, half_sum, sigmoid_eq', sigmoid_eq', ← mul_assoc, ← mul_assoc,
    mul_comm half (1 + Ideal.tanh (half * ga l)), mul_comm half (1 + Ideal.tanh (half * gb l))]

/-- A sum over 256 columns that is nothing outside one block of 64. -/
theorem block_sum (q : Fin 4) (f : Fin 256 → EReal) (hf : ∀ k : Fin 256, k.val / 64 ≠ q.val → f k = 0) :
    ∑ k, f k = ∑ d : Fin 64, f ⟨64 * q.val + d.val, by omega⟩ := by
  rw [← (finProdFinEquiv (m := 4) (n := 64)).sum_comp f, Fintype.sum_prod_type, Finset.sum_eq_single q]
  · refine Finset.sum_congr rfl fun d _ => congrArg f (Fin.ext ?_)
    simp [finProdFinEquiv, add_comm]
  · intro p _ hp
    refine Finset.sum_eq_zero fun d _ => hf _ ?_
    have : (finProdFinEquiv (p, d)).val = d.val + 64 * p.val := rfl
    rw [this]
    intro h
    exact hp (Fin.ext (by omega))
  · intro h; exact absurd (Finset.mem_univ _) h

/-- What the kernel's gate squashes, of a block-diagonal weight that holds half the reference's, is half of what the
    reference's gate squashes. -/
theorem gate_eq (xc : Fin 1024 → EReal) (w : Fin 16 → Fin 64 → Fin 64 → EReal) (b : Fin 1024 → EReal) (l : Fin 1024) :
    kGateIn xc (fun g k j => if k.val / 64 = j.val / 64 then half * w ⟨g.val * 4 + k.val / 64, by omega⟩
        ⟨k.val % 64, by omega⟩ ⟨j.val % 64, by omega⟩ else 0) (fun k => half * b k) l = half * gateIn xc w b l := by
  unfold kGateIn gateIn
  rw [mul_add' _ half_nonneg half_ne_top, mul_sum' _ _ half_nonneg half_ne_top]
  refine congrArg (· + half * b l) ?_
  rw [block_sum ⟨l.val % 256 / 64, by omega⟩ _ fun k hk => by dsimp only at hk ⊢; rw [if_neg hk, mul_zero]]
  refine Finset.sum_congr rfl fun d _ => ?_
  dsimp only
  rw [if_pos (by omega), mul_comm, mul_assoc]
  have e1 : l.val / 256 * 4 + (64 * (l.val % 256 / 64) + d.val) / 64 = l.val / 64 := by omega
  have e2 : (64 * (l.val % 256 / 64) + d.val) % 64 = d.val := by omega
  have e3 : l.val % 256 % 64 = l.val % 64 := by omega
  have e4 : l.val / 256 * 256 + (64 * (l.val % 256 / 64) + d.val) = l.val / 64 * 64 + d.val := by omega
  simp only [e1, e2, e3, e4]

end Cert.Merge
-- ==== Proof.MixSBlock.lean ====
/- What the merge kernel of the sample rows stores. -/
module

public import proofs.«01_k».proof.Proof.MixSIdealFrame
public import proofs.«01_k».proof.Proof.MergeEq
public import Idealize.ShloMosaic.Lib.UnfoldOut
public import Idealize.ShloMosaic.Lib.Pipeline.ValueKit

@[expose] public section

set_option maxRecDepth 16384

noncomputable section

namespace Cert.MixSIdeal.Block

open Cert.MixSIdeal Cert.MixSIdeal.Gen Idealize.ShloMosaic Idealize.SL.Sem Idealize.ShloMosaic.Pointwise
open Cert.Layer Cert.Scalars Cert.Merge

variable (w : Vec Ideal S8x1024 .f32) (cb v1 lam ga : Vec Ideal S1x1024 .f32) (c0 c1 c2 x h tr ti gr gA gB h1 hs : Vec Ideal S32x1024 .f32)

theorem conv_at (b : Fin 32) (l : Fin 1024) : k0_pay2 w cb c0 c1 c2 x (ix2 b l)
    = convolved (fun k l => w (ix2 ⟨k.val, by omega⟩ l)) (fun l => cb (ix2 0 l)) (fun l => c0 (ix2 b l)) (fun l => c1 (ix2 b l))
        (fun l => c2 (ix2 b l)) (fun l => x (ix2 b l)) l := by
  unfold convolved
  pointwise [k0_pay2]

variable (W : Vec Ideal S4x256x512 .bf16)

theorem ix3_ext {a a' : Fin 4} {k : Fin 256} {j j' : Fin 512} (ha : a = a') (hj : j = j') :
    (ix3 a k j : S4x256x512.Idx) = ix3 a' k j' := by rw [ha, hj]

/-- One plus the recurrence gate's tanh. -/
theorem gate_r (b : Fin 32) (l : Fin 1024) :
    k0_pay14 (k0_pay3 v1) (k0_pay6 w cb c0 c1 c2 x) (k0_pay7 w cb c0 c1 c2 x) (k0_pay8 (View.ld W r0_3)) (View.ld W r0_4)
        (View.ld W r0_5) (View.ld W r0_6) (ix2 b l)
      = 1 + Ideal.tanh (kGateIn (fun k => k0_pay2 w cb c0 c1 c2 x (ix2 b k))
          (fun g k j => W (ix3 g k ⟨j.val, by omega⟩)) (fun k => v1 (ix2 0 k)) l) := by
  unfold kGateIn
  pointwise [k0_pay14, k0_pay9, k0_pay10, k0_pay11, k0_pay12, k0_pay7, k0_pay6, k0_pay8, k0_pay3, r0_3, r0_4, r0_5, r0_6]
  generalize k0_pay2 w cb c0 c1 c2 x = y
  refine congrArg (fun s => 1 + Ideal.tanh (s + v1 (ix2 0 l))) ?_
  split_ifs <;> refine Finset.sum_congr rfl fun k _ => ?_ <;>
    refine congrArg₂ (· * ·) (congrArg (fun i => y (ix2 b i)) (Fin.ext ?_))
      (congrArg W (ix3_ext (Fin.ext ?_) (Fin.ext ?_))) <;> simp <;> omega

/-- The input gate's tanh. -/
theorem gate_i (b : Fin 32) (l : Fin 1024) :
    k0_pay13 (k0_pay4 v1) (k0_pay6 w cb c0 c1 c2 x) (k0_pay7 w cb c0 c1 c2 x) (k0_pay8 (View.ld W r0_3)) (View.ld W r0_4)
        (View.ld W r0_5) (View.ld W r0_6) (ix2 b l)
      = Ideal.tanh (kGateIn (fun k => k0_pay2 w cb c0 c1 c2 x (ix2 b k))
          (fun g k j => W (ix3 g k ⟨256 + j.val, by omega⟩)) (fun k => v1 (ix2 0 k)) l) := by
  unfold kGateIn
  pointwise [k0_pay13, k0_pay9, k0_pay10, k0_pay11, k0_pay12, k0_pay7, k0_pay6, k0_pay8, k0_pay4, r0_3, r0_4, r0_5, r0_6]
  generalize k0_pay2 w cb c0 c1 c2 x = y
  refine congrArg (fun s => Ideal.tanh (s + v1 (ix2 0 l))) ?_
  split_ifs <;> refine Finset.sum_congr rfl fun k _ => ?_ <;>
    refine congrArg₂ (· * ·) (congrArg (fun i => y (ix2 b i)) (Fin.ext ?_))
      (congrArg W (ix3_ext (Fin.ext ?_) (Fin.ext ?_))) <;> simp <;> omega

/-- The state one step on. -/
theorem state_at (b : Fin 32) (l : Fin 1024) :
    k0_pay17 x ti tr (k0_pay15 (k0_pay5 lam)) (k0_pay16 (F := Ideal)) h (ix2 b l)
      = kStepped (kDecay (tr (ix2 b l)) (lam (ix2 0 l))) (ti (ix2 b l)) (x (ix2 b l)) (h (ix2 b l)) := by
  unfold kStepped kDecay softplus
  simp only [← minusQuarter_eq, ← minusFour_eq]
  pointwise [k0_pay17, k0_pay15, k0_pay16, k0_pay5]
  simp only [zero_sub]
  rfl

/-- The kernel's row before the layer norm. -/
def row (gr gA gB h1 hs : Vec Ideal S32x1024 .f32) (o : Vec Ideal S32x512 .f32) (wa : Vec Ideal S512x1024 .bf16)
    (wr wo : Vec Ideal S1024x1024 .bf16) (b : Fin 32) : Fin 1024 → EReal :=
  mixRow (fun k => h1 (ix2 b k))
    (kMerged (fun k => o (ix2 b k)) (fun k => hs (ix2 b k) * kGelu (gr (ix2 b k))) (fun k j => wa (ix2 k j))
      (fun k j => wr (ix2 k j)) (fun k => gA (ix2 b k)) (fun k => gB (ix2 b k))) (fun k j => wo (ix2 k j))

variable (o : Vec Ideal S32x512 .f32) (wa : Vec Ideal S512x1024 .bf16) (wr wo : Vec Ideal S1024x1024 .bf16)

theorem centred_at (b : Fin 32) (l : Fin 1024) :
    k0_pay24 hs h1 (k0_pay18 gr) (k0_pay19 gA) (k0_pay20 gB) o (k0_pay23 gr) (Scalar.ofBits .f32 0x3FCC422A#32) wa wr wo (ix2 b l)
      = row gr gA gB h1 hs o wa wr wo b l
        - Ideal.div (∑ i, row gr gA gB h1 hs o wa wr wo b i) (Ideal.ofBits .f32 0x44800000#32) := by
  unfold row mixRow kMerged kGelu
  have hk : Named.named (F := Ideal) κ "eight_root_cubic" (φ := .f32) 0x3E922279#32 = rootCubic :=
    IdealRules.named_const.ideal_named_scalar _ _ _ _ rfl
  simp only [← hk]
  pointwise [k0_pay24, k0_pay18, k0_pay19, k0_pay20, k0_pay23]

/-- The stored row. -/
theorem norm_at (g2 b2 : Vec Ideal S1x1024 .f32) (b : Fin 32) (l : Fin 1024) :
    k0_pay1 (k0_pay21 g2) (k0_pay22 b2)
        (k0_pay24 hs h1 (k0_pay18 gr) (k0_pay19 gA) (k0_pay20 gB) o (k0_pay23 gr) (Scalar.ofBits .f32 0x3FCC422A#32) wa wr wo)
        (k0_pay25 hs h1 (k0_pay18 gr) (k0_pay19 gA) (k0_pay20 gB) o (k0_pay23 gr) (Scalar.ofBits .f32 0x3FCC422A#32) wa wr wo)
        (ix2 b l)
      = rowNorm (row gr gA gB h1 hs o wa wr wo b) (fun k => g2 (ix2 0 k)) (fun k => b2 (ix2 0 k)) l := by
  unfold rowNorm k0_pay25
  simp only [← centred_at gr gA gB h1 hs o wa wr wo]
  generalize k0_pay24 hs h1 (k0_pay18 gr) (k0_pay19 gA) (k0_pay20 gB) o (k0_pay23 gr) (Scalar.ofBits .f32 0x3FCC422A#32) wa wr wo = y
  pointwise [k0_pay1, k0_pay21, k0_pay22]

end Cert.MixSIdeal.Block
-- ==== Proof.MixSOut.lean ====
/- The merge kernel's two stored blocks as functions of its blocks. -/
module

public import proofs.«01_k».proof.Proof.MixSBlock

@[expose] public section

set_option maxRecDepth 16384

noncomputable section

namespace Cert.MixSIdeal.Out

open Cert.MixSIdeal Cert.MixSIdeal.Gen Idealize.ShloMosaic Idealize.ShloMosaic.TcCoe Idealize.SL.Sem
open Idealize.ShloMosaic.Pointwise Cert.Layer Cert.Scalars Cert.Merge

variable (P0 : Vec Ideal S32x1024 .f32)
  (P1 : Vec Ideal S32x1024 .f32)
  (P2 : Vec Ideal S32x1024 .f32)
  (P3 : Vec Ideal S32x1024 .f32)
  (P4 : Vec Ideal S32x1024 .f32)
  (P5 : Vec Ideal S32x1024 .f32)
  (P6 : Vec Ideal S32x1024 .f32)
  (P7 : Vec Ideal S32x1024 .f32)
  (P8 : Vec Ideal S32x512 .f32)
  (P9 : Vec Ideal S32x1024 .f32)
  (P10 : Vec Ideal S8x1024 .f32)
  (P11 : Vec Ideal S1x1024 .f32)
  (P12 : Vec Ideal S4x256x512 .bf16)
  (P13 : Vec Ideal S1x1024 .f32)
  (P14 : Vec Ideal S1x1024 .f32)
  (P15 : Vec Ideal S1x1024 .f32)
  (P16 : Vec Ideal S512x1024 .bf16)
  (P17 : Vec Ideal S1024x1024 .bf16)
  (P18 : Vec Ideal S1024x1024 .bf16)
  (P19 : Vec Ideal S1x1024 .f32)
  (P20 : Vec Ideal S1x1024 .f32)

/-- The convolution of row `b` of the blocks. -/
abbrev xc (b : Fin 32) : Fin 1024 → EReal :=
  convolved (fun k l => P10 (ix2 ⟨k.val, by omega⟩ l)) (fun l => P11 (ix2 0 l)) (fun l => P1 (ix2 b l))
    (fun l => P2 (ix2 b l)) (fun l => P3 (ix2 b l)) (fun l => P0 (ix2 b l))

/-- The stored state. -/
theorem state_at (b : Fin 32) (l : Fin 1024) : out0_22 P0 P1 P2 P3 P4 P5 P6 P7 P8 P9 P10 P11 P12 P13 P14 P15 P16 P17 P18 P19 P20 (ix2 b l)
    = kStepped (kDecay (1 + Ideal.tanh (kGateIn (xc P0 P1 P2 P3 P10 P11 b)
          (fun g k j => P12 (ix3 g k ⟨j.val, by omega⟩)) (fun k => P13 (ix2 0 k)) l)) (P15 (ix2 0 l)))
        (Ideal.tanh (kGateIn (xc P0 P1 P2 P3 P10 P11 b) (fun g k j => P12 (ix3 g k ⟨256 + j.val, by omega⟩))
          (fun k => P14 (ix2 0 k)) l)) (xc P0 P1 P2 P3 P10 P11 b l) (P4 (ix2 b l)) := by
  unfold out0_22 k0_pay33 k0_pay32 k0_pay31 k0_pay30 k0_pay29 k0_pay28 k0_pay27 k0_pay26
  frame_out
  rw [Block.state_at, Block.gate_r, Block.gate_i]
  simp only [Block.conv_at]

/-- The stored row, from the stored state. -/
theorem row_at (b : Fin 32) (l : Fin 1024) : out0_21 P0 P1 P2 P3 P4 P5 P6 P7 P8 P9 P10 P11 P12 P13 P14 P15 P16 P17 P18 P19 P20 (ix2 b l)
    = rowNorm (Block.row P5 P6 P7 P9 (out0_22 P0 P1 P2 P3 P4 P5 P6 P7 P8 P9 P10 P11 P12 P13 P14 P15 P16 P17 P18 P19 P20) P8 P16 P17 P18 b) (fun k => P19 (ix2 0 k))
        (fun k => P20 (ix2 0 k)) l := by
  unfold out0_21 out0_22 k0_pay38 k0_pay37 k0_pay36 k0_pay35 k0_pay34 k0_pay33 k0_pay32 k0_pay31 k0_pay30 k0_pay29 k0_pay28 k0_pay27 k0_pay26
  frame_out
  rw [Block.norm_at]

end Cert.MixSIdeal.Out
-- ==== Proof.MixSRows.lean ====
/- The merge kernel's blocks as functions of the argument arrays. -/
module

public import proofs.«01_k».proof.Proof.MixSOut
public import Idealize.ShloMosaic.Lib.StableHlo.ReadAt

@[expose] public section

set_option maxRecDepth 16384

noncomputable section

namespace Cert.MixSIdeal.Array

open Cert.MixSIdeal Cert.MixSIdeal.Gen Idealize.ShloMosaic Idealize.ShloMosaic.TcCoe Idealize.SL.Sem
open Idealize.ShloMosaic.Pointwise Cert.Layer Cert.Scalars Cert.Merge

variable (m : (ℓ : Loc nD τ sig) → Buf (Elt Ideal) ℓ)

/-- Where each window's block lies. -/
theorem idx : ∀ t : Fin grid0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![0, 0]
    ∧ win0_19.index t = ![0, 0]
    ∧ win0_20.index t = ![0, 0]
    ∧ win0_21.index t = ![0, 0]
    ∧ win0_22.index t = ![0, 0] := by
  decide +kernel

theorem xr_at (c : Dev nD) (t : Fin cfg0.N) (b : Fin 32) (l : Fin 1024) : (iblk m c 0 t : Vec Ideal S32x1024 .f32) (ix2 b l) = m ((c : Thread nD τ).loc main_arg0) (ix2 b l) := by
  refine (congrArg (V m c main_arg0) (?_ : _ = ix2 b l)).trans ?_
  · blk_ext [idx t]
  · unfold V
    simp only [hostOps0, hostOps0_1, hostOps0_2, List.flatten_cons, List.flatten_nil, List.append_nil, List.cons_append,
      List.nil_append]
    entry_read
    try simp -implicitDefEqProofs only [StableHlo.TRef.toBuf, StableHlo.TRef.ofBuf, cast_cast, cast_eq]

theorem tap0 (c : Dev nD) (b : Fin 32) (l : Fin 1024) : V m c main_v2 (ix2 b l) = m ((c : Thread nD τ).loc main_arg1) (ix4 0 b 0 l) := by
  unfold V
  simp only [hostOps0, hostOps0_1, hostOps0_2, List.flatten_cons, List.flatten_nil, List.append_nil, List.cons_append,
    List.nil_append]
  entry_read
  try simp -implicitDefEqProofs only [StableHlo.TRef.toBuf, StableHlo.TRef.ofBuf, cast_cast, cast_eq]
  clean_types
  pointwise

theorem tap0_at (c : Dev nD) (t : Fin cfg0.N) (b : Fin 32) (l : Fin 1024) : (iblk m c 1 t : Vec Ideal S32x1024 .f32) (ix2 b l) = m ((c : Thread nD τ).loc main_arg1) (ix4 0 b 0 l) := by
  refine (congrArg (V m c main_v2) (?_ : _ = ix2 b l)).trans (tap0 m c _ _)
  blk_ext [idx t]

theorem tap1 (c : Dev nD) (b : Fin 32) (l : Fin 1024) : V m c main_v5 (ix2 b l) = m ((c : Thread nD τ).loc main_arg1) (ix4 0 b 1 l) := by
  unfold V
  simp only [hostOps0, hostOps0_1, hostOps0_2, List.flatten_cons, List.flatten_nil, List.append_nil, List.cons_append,
    List.nil_append]
  entry_read
  try simp -implicitDefEqProofs only [StableHlo.TRef.toBuf, StableHlo.TRef.ofBuf, cast_cast, cast_eq]
  clean_types
  pointwise

theorem tap1_at (c : Dev nD) (t : Fin cfg0.N) (b : Fin 32) (l : Fin 1024) : (iblk m c 2 t : Vec Ideal S32x1024 .f32) (ix2 b l) = m ((c : Thread nD τ).loc main_arg1) (ix4 0 b 1 l) := by
  refine (congrArg (V m c main_v5) (?_ : _ = ix2 b l)).trans (tap1 m c _ _)
  blk_ext [idx t]

theorem tap2 (c : Dev nD) (b : Fin 32) (l : Fin 1024) : V m c main_v8 (ix2 b l) = m ((c : Thread nD τ).loc main_arg1) (ix4 0 b 2 l) := by
  unfold V
  simp only [hostOps0, hostOps0_1, hostOps0_2, List.flatten_cons, List.flatten_nil, List.append_nil, List.cons_append,
    List.nil_append]
  entry_read
  try simp -implicitDefEqProofs only [StableHlo.TRef.toBuf, StableHlo.TRef.ofBuf, cast_cast, cast_eq]
  clean_types
  pointwise

theorem tap2_at (c : Dev nD) (t : Fin cfg0.N) (b : Fin 32) (l : Fin 1024) : (iblk m c 3 t : Vec Ideal S32x1024 .f32) (ix2 b l) = m ((c : Thread nD τ).loc main_arg1) (ix4 0 b 2 l) := by
  refine (congrArg (V m c main_v8) (?_ : _ = ix2 b l)).trans (tap2 m c _ _)
  blk_ext [idx t]

theorem state (c : Dev nD) (b : Fin 32) (l : Fin 1024) : V m c main_v9 (ix2 b l) = m ((c : Thread nD τ).loc main_arg2) (ix3 0 b l) := by
  unfold V
  simp only [hostOps0, hostOps0_1, hostOps0_2, List.flatten_cons, List.flatten_nil, List.append_nil, List.cons_append,
    List.nil_append]
  entry_read
  try simp -implicitDefEqProofs only [StableHlo.TRef.toBuf, StableHlo.TRef.ofBuf, cast_cast, cast_eq]
  clean_types
  pointwise

theorem state_at (c : Dev nD) (t : Fin cfg0.N) (b : Fin 32) (l : Fin 1024) : (iblk m c 4 t : Vec Ideal S32x1024 .f32) (ix2 b l) = m ((c : Thread nD τ).loc main_arg2) (ix3 0 b l) := by
  refine (congrArg (V m c main_v9) (?_ : _ = ix2 b l)).trans (state m c _ _)
  blk_ext [idx t]

theorem gr (c : Dev nD) (b : Fin 32) (l : Fin 1024) : V m c main_v11 (ix2 b l) = half * m ((c : Thread nD τ).loc main_arg3) (ix2 b l) := by
  simp only [half, ← half_eq]
  unfold V
  simp only [hostOps0, hostOps0_1, hostOps0_2, List.flatten_cons, List.flatten_nil, List.append_nil, List.cons_append,
    List.nil_append]
  entry_read
  try simp -implicitDefEqProofs only [StableHlo.TRef.toBuf, StableHlo.TRef.ofBuf, cast_cast, cast_eq]
  clean_types
  pointwise

theorem gr_at (c : Dev nD) (t : Fin cfg0.N) (b : Fin 32) (l : Fin 1024) : (iblk m c 5 t : Vec Ideal S32x1024 .f32) (ix2 b l) = half * m ((c : Thread nD τ).loc main_arg3) (ix2 b l) := by
  refine (congrArg (V m c main_v11) (?_ : _ = ix2 b l)).trans (gr m c _ _)
  blk_ext [idx t]

theorem ga (c : Dev nD) (b : Fin 32) (l : Fin 1024) : V m c main_v13 (ix2 b l) = half * m ((c : Thread nD τ).loc main_arg4) (ix2 b l) := by
  simp only [half, ← half_eq]
  unfold V
  simp only [hostOps0, hostOps0_1, hostOps0_2, List.flatten_cons, List.flatten_nil, List.append_nil, List.cons_append,
    List.nil_append]
  entry_read
  try simp -implicitDefEqProofs only [StableHlo.TRef.toBuf, StableHlo.TRef.ofBuf, cast_cast, cast_eq]
  clean_types
  pointwise

theorem ga_at (c : Dev nD) (t : Fin cfg0.N) (b : Fin 32) (l : Fin 1024) : (iblk m c 6 t : Vec Ideal S32x1024 .f32) (ix2 b l) = half * m ((c : Thread nD τ).loc main_arg4) (ix2 b l) := by
  refine (congrArg (V m c main_v13) (?_ : _ = ix2 b l)).trans (ga m c _ _)
  blk_ext [idx t]

theorem gb (c : Dev nD) (b : Fin 32) (l : Fin 1024) : V m c main_v15 (ix2 b l) = half * m ((c : Thread nD τ).loc main_arg5) (ix2 b l) := by
  simp only [half, ← half_eq]
  unfold V
  simp only [hostOps0, hostOps0_1, hostOps0_2, List.flatten_cons, List.flatten_nil, List.append_nil, List.cons_append,
    List.nil_append]
  entry_read
  try simp -implicitDefEqProofs only [StableHlo.TRef.toBuf, StableHlo.TRef.ofBuf, cast_cast, cast_eq]
  clean_types
  pointwise

theorem gb_at (c : Dev nD) (t : Fin cfg0.N) (b : Fin 32) (l : Fin 1024) : (iblk m c 7 t : Vec Ideal S32x1024 .f32) (ix2 b l) = half * m ((c : Thread nD τ).loc main_arg5) (ix2 b l) := by
  refine (congrArg (V m c main_v15) (?_ : _ = ix2 b l)).trans (gb m c _ _)
  blk_ext [idx t]

theorem attn_at (c : Dev nD) (t : Fin cfg0.N) (b : Fin 32) (l : Fin 512) : (iblk m c 8 t : Vec Ideal S32x512 .f32) (ix2 b l) = m ((c : Thread nD τ).loc main_arg6) (ix2 b l) := by
  refine (congrArg (V m c main_arg6) (?_ : _ = ix2 b l)).trans ?_
  · blk_ext [idx t]
  · unfold V
    simp only [hostOps0, hostOps0_1, hostOps0_2, List.flatten_cons, List.flatten_nil, List.append_nil, List.cons_append,
      List.nil_append]
    entry_read
    try simp -implicitDefEqProofs only [StableHlo.TRef.toBuf, StableHlo.TRef.ofBuf, cast_cast, cast_eq]

theorem resid_at (c : Dev nD) (t : Fin cfg0.N) (b : Fin 32) (l : Fin 1024) : (iblk m c 9 t : Vec Ideal S32x1024 .f32) (ix2 b l) = m ((c : Thread nD τ).loc main_arg7) (ix2 b l) := by
  refine (congrArg (V m c main_arg7) (?_ : _ = ix2 b l)).trans ?_
  · blk_ext [idx t]
  · unfold V
    simp only [hostOps0, hostOps0_1, hostOps0_2, List.flatten_cons, List.flatten_nil, List.append_nil, List.cons_append,
      List.nil_append]
    entry_read
    try simp -implicitDefEqProofs only [StableHlo.TRef.toBuf, StableHlo.TRef.ofBuf, cast_cast, cast_eq]

end Cert.MixSIdeal.Array
-- ==== Proof.MixSWeights.lean ====
/- The merge kernel's weight blocks as functions of the argument arrays. -/
module

public import proofs.«01_k».proof.Proof.MixSRows
public import Idealize.ShloMosaic.Lib.StableHlo.ReadAt

@[expose] public section

set_option maxRecDepth 16384

noncomputable section

namespace Cert.MixSIdeal.Array

open Cert.MixSIdeal Cert.MixSIdeal.Gen Idealize.ShloMosaic Idealize.ShloMosaic.TcCoe Idealize.SL.Sem
open Idealize.ShloMosaic.Pointwise Cert.Layer Cert.Scalars Cert.Merge

variable (m : (ℓ : Loc nD τ sig) → Buf (Elt Ideal) ℓ)

theorem convb (c : Dev nD) (l : Fin 1024) : V m c main_v19 (ix2 0 l) = m ((c : Thread nD τ).loc main_arg9) (ix2 0 l) := by
  unfold V
  simp only [hostOps0, hostOps0_1, hostOps0_2, List.flatten_cons, List.flatten_nil, List.append_nil, List.cons_append,
    List.nil_append]
  entry_read
  try simp -implicitDefEqProofs only [StableHlo.TRef.toBuf, StableHlo.TRef.ofBuf, cast_cast, cast_eq]
  clean_types
  pointwise

theorem convb_at (c : Dev nD) (t : Fin cfg0.N) (l : Fin 1024) : (iblk m c 11 t : Vec Ideal S1x1024 .f32) (ix2 0 l) = m ((c : Thread nD τ).loc main_arg9) (ix2 0 l) := by
  refine (congrArg (V m c main_v19) (?_ : _ = ix2 0 l)).trans (convb m c _)
  blk_ext [idx t]

theorem bias_a (c : Dev nD) (l : Fin 1024) : V m c main_v51 (ix2 0 l) = half * m ((c : Thread nD τ).loc main_arg11) (ix2 0 l) := by
  simp only [half, ← half_eq]
  unfold V
  simp only [hostOps0, hostOps0_1, hostOps0_2, List.flatten_cons, List.flatten_nil, List.append_nil, List.cons_append,
    List.nil_append]
  entry_read
  try simp -implicitDefEqProofs only [StableHlo.TRef.toBuf, StableHlo.TRef.ofBuf, cast_cast, cast_eq]
  clean_types
  pointwise

theorem bias_a_at (c : Dev nD) (t : Fin cfg0.N) (l : Fin 1024) : (iblk m c 13 t : Vec Ideal S1x1024 .f32) (ix2 0 l) = half * m ((c : Thread nD τ).loc main_arg11) (ix2 0 l) := by
  refine (congrArg (V m c main_v51) (?_ : _ = ix2 0 l)).trans (bias_a m c _)
  blk_ext [idx t]

theorem bias_x (c : Dev nD) (l : Fin 1024) : V m c main_v55 (ix2 0 l) = half * m ((c : Thread nD τ).loc main_arg13) (ix2 0 l) := by
  simp only [half, ← half_eq]
  unfold V
  simp only [hostOps0, hostOps0_1, hostOps0_2, List.flatten_cons, List.flatten_nil, List.append_nil, List.cons_append,
    List.nil_append]
  entry_read
  try simp -implicitDefEqProofs only [StableHlo.TRef.toBuf, StableHlo.TRef.ofBuf, cast_cast, cast_eq]
  clean_types
  pointwise

theorem bias_x_at (c : Dev nD) (t : Fin cfg0.N) (l : Fin 1024) : (iblk m c 14 t : Vec Ideal S1x1024 .f32) (ix2 0 l) = half * m ((c : Thread nD τ).loc main_arg13) (ix2 0 l) := by
  refine (congrArg (V m c main_v55) (?_ : _ = ix2 0 l)).trans (bias_x m c _)
  blk_ext [idx t]

theorem lam (c : Dev nD) (l : Fin 1024) : V m c main_v57 (ix2 0 l) = m ((c : Thread nD τ).loc main_arg14) (ix2 0 l) := by
  unfold V
  simp only [hostOps0, hostOps0_1, hostOps0_2, List.flatten_cons, List.flatten_nil, List.append_nil, List.cons_append,
    List.nil_append]
  entry_read
  try simp -implicitDefEqProofs only [StableHlo.TRef.toBuf, StableHlo.TRef.ofBuf, cast_cast, cast_eq]
  clean_types
  pointwise

theorem lam_at (c : Dev nD) (t : Fin cfg0.N) (l : Fin 1024) : (iblk m c 15 t : Vec Ideal S1x1024 .f32) (ix2 0 l) = m ((c : Thread nD τ).loc main_arg14) (ix2 0 l) := by
  refine (congrArg (V m c main_v57) (?_ : _ = ix2 0 l)).trans (lam m c _)
  blk_ext [idx t]

theorem w_attn (c : Dev nD) (b : Fin 512) (l : Fin 1024) : V m c main_v61 (ix2 b l) = half * m ((c : Thread nD τ).loc main_arg15) (ix3 0 b l) := by
  simp only [half, ← half_eq]
  unfold V
  simp only [hostOps0, hostOps0_1, hostOps0_2, List.flatten_cons, List.flatten_nil, List.append_nil, List.cons_append,
    List.nil_append]
  entry_read
  try simp -implicitDefEqProofs only [StableHlo.TRef.toBuf, StableHlo.TRef.ofBuf, cast_cast, cast_eq]
  clean_types
  pointwise

theorem w_attn_at (c : Dev nD) (t : Fin cfg0.N) (b : Fin 512) (l : Fin 1024) : (iblk m c 16 t : Vec Ideal S512x1024 .bf16) (ix2 b l) = half * m ((c : Thread nD τ).loc main_arg15) (ix3 0 b l) := by
  refine (congrArg (V m c main_v61) (?_ : _ = ix2 b l)).trans (w_attn m c _ _)
  blk_ext [idx t]

theorem w_rnn (c : Dev nD) (b : Fin 1024) (l : Fin 1024) : V m c main_v65 (ix2 b l) = half * m ((c : Thread nD τ).loc main_arg16) (ix3 0 b l) := by
  simp only [half, ← half_eq]
  unfold V
  simp only [hostOps0, hostOps0_1, hostOps0_2, List.flatten_cons, List.flatten_nil, List.append_nil, List.cons_append,
    List.nil_append]
  entry_read
  try simp -implicitDefEqProofs only [StableHlo.TRef.toBuf, StableHlo.TRef.ofBuf, cast_cast, cast_eq]
  clean_types
  pointwise

/-- The recurrent branch's weight window is the whole weight. -/
theorem idx17 : ∀ t : Fin grid0.N, win0_17.index t = ![0, 0] := by
  decide +kernel

set_option maxHeartbeats 2000000 in
theorem w_rnn_at (c : Dev nD) (t : Fin cfg0.N) (b : Fin 1024) (l : Fin 1024) : (iblk m c 17 t : Vec Ideal S1024x1024 .bf16) (ix2 b l) = half * m ((c : Thread nD τ).loc main_arg16) (ix3 0 b l) := by
  refine (congrArg (V m c main_v65) (?_ : _ = ix2 b l)).trans (w_rnn m c _ _)
  blk_ext [idx17 t]

theorem w_out (c : Dev nD) (b : Fin 1024) (l : Fin 1024) : V m c main_v67 (ix2 b l) = m ((c : Thread nD τ).loc main_arg17) (ix3 0 b l) := by
  unfold V
  simp only [hostOps0, hostOps0_1, hostOps0_2, List.flatten_cons, List.flatten_nil, List.append_nil, List.cons_append,
    List.nil_append]
  entry_read
  try simp -implicitDefEqProofs only [StableHlo.TRef.toBuf, StableHlo.TRef.ofBuf, cast_cast, cast_eq]
  clean_types
  pointwise

theorem w_out_at (c : Dev nD) (t : Fin cfg0.N) (b : Fin 1024) (l : Fin 1024) : (iblk m c 18 t : Vec Ideal S1024x1024 .bf16) (ix2 b l) = m ((c : Thread nD τ).loc main_arg17) (ix3 0 b l) := by
  refine (congrArg (V m c main_v67) (?_ : _ = ix2 b l)).trans (w_out m c _ _)
  blk_ext [idx t]

theorem scale (c : Dev nD) (l : Fin 1024) : V m c main_v69 (ix2 0 l) = m ((c : Thread nD τ).loc main_arg18) (ix2 0 l) := by
  unfold V
  simp only [hostOps0, hostOps0_1, hostOps0_2, List.flatten_cons, List.flatten_nil, List.append_nil, List.cons_append,
    List.nil_append]
  entry_read
  try simp -implicitDefEqProofs only [StableHlo.TRef.toBuf, StableHlo.TRef.ofBuf, cast_cast, cast_eq]
  clean_types
  pointwise

theorem scale_at (c : Dev nD) (t : Fin cfg0.N) (l : Fin 1024) : (iblk m c 19 t : Vec Ideal S1x1024 .f32) (ix2 0 l) = m ((c : Thread nD τ).loc main_arg18) (ix2 0 l) := by
  refine (congrArg (V m c main_v69) (?_ : _ = ix2 0 l)).trans (scale m c _)
  blk_ext [idx t]

theorem shift (c : Dev nD) (l : Fin 1024) : V m c main_v71 (ix2 0 l) = m ((c : Thread nD τ).loc main_arg19) (ix2 0 l) := by
  unfold V
  simp only [hostOps0, hostOps0_1, hostOps0_2, List.flatten_cons, List.flatten_nil, List.append_nil, List.cons_append,
    List.nil_append]
  entry_read
  try simp -implicitDefEqProofs only [StableHlo.TRef.toBuf, StableHlo.TRef.ofBuf, cast_cast, cast_eq]
  clean_types
  pointwise

theorem shift_at (c : Dev nD) (t : Fin cfg0.N) (l : Fin 1024) : (iblk m c 20 t : Vec Ideal S1x1024 .f32) (ix2 0 l) = m ((c : Thread nD τ).loc main_arg19) (ix2 0 l) := by
  refine (congrArg (V m c main_v71) (?_ : _ = ix2 0 l)).trans (shift m c _)
  blk_ext [idx t]

end Cert.MixSIdeal.Array
-- ==== Proof.MixSTaps.lean ====
/- The merge kernel's weight blocks as functions of the argument arrays. -/
module

public import proofs.«01_k».proof.Proof.MixSRows
public import Idealize.ShloMosaic.Lib.StableHlo.ReadAt

@[expose] public section

set_option maxRecDepth 16384

noncomputable section

namespace Cert.MixSIdeal.Array

open Cert.MixSIdeal Cert.MixSIdeal.Gen Idealize.ShloMosaic Idealize.ShloMosaic.TcCoe Idealize.SL.Sem
open Idealize.ShloMosaic.Pointwise Cert.Layer Cert.Scalars Cert.Merge

variable (m : (ℓ : Loc nD τ sig) → Buf (Elt Ideal) ℓ)

/-- The convolution's taps, below four rows of zeros. -/
theorem taps (c : Dev nD) (k : Fin 4) (l : Fin 1024) : V m c main_v17 (ix2 (n0 := 8) ⟨k.val, by omega⟩ l) = m ((c : Thread nD τ).loc main_arg8) (ix3 0 k l) := by
  unfold V
  simp only [hostOps0, hostOps0_1, hostOps0_2, List.flatten_cons, List.flatten_nil, List.append_nil, List.cons_append,
    List.nil_append]
  entry_read
  try simp -implicitDefEqProofs only [StableHlo.TRef.toBuf, StableHlo.TRef.ofBuf, cast_cast, cast_eq]
  clean_types
  pointwise

theorem taps_at (c : Dev nD) (t : Fin cfg0.N) (k : Fin 4) (l : Fin 1024) :
    (iblk m c 10 t : Vec Ideal S8x1024 .f32) (ix2 ⟨k.val, by omega⟩ l) = m ((c : Thread nD τ).loc main_arg8) (ix3 0 k l) := by
  refine (congrArg (V m c main_v17) (?_ : _ = ix2 (n0 := 8) ⟨k.val, by omega⟩ l)).trans (taps m c _ _)
  blk_ext [idx t]

end Cert.MixSIdeal.Array
-- ==== Proof.MixSEye.lean ====
/- The merge kernel's weight blocks as functions of the argument arrays. -/
module

public import proofs.«01_k».proof.Proof.MixSRows
public import Idealize.ShloMosaic.Lib.StableHlo.ReadAt

@[expose] public section

set_option maxRecDepth 16384

noncomputable section

namespace Cert.MixSIdeal.Array

open Cert.MixSIdeal Cert.MixSIdeal.Gen Idealize.ShloMosaic Idealize.ShloMosaic.TcCoe Idealize.SL.Sem
open Idealize.ShloMosaic.Pointwise Cert.Layer Cert.Scalars Cert.Merge

variable (m : (ℓ : Loc nD τ sig) → Buf (Elt Ideal) ℓ)

/-- The four-by-four unit matrix's entries, as the host forms them. -/
theorem eye_bit : ∀ p q : Fin 4, IntOp.cmpi CmpIPredicate.eq (IntOp.addi (BitVec.ofNat 32 p.val) 0#32) (BitVec.ofNat 32 q.val)
    = if p.val = q.val then 1#1 else 0#1 := by
  decide +kernel

/-- An entry of the unit matrix times a number. -/
theorem eye_mul (p q : Fin 4) (y : EReal) :
    FloatOps.uitofp (F := Ideal) FTy.f32
      (IntOp.cmpi CmpIPredicate.eq (IntOp.addi (BitVec.ofNat 32 p.val) 0#32) (BitVec.ofNat 32 q.val)) * y
      = if p.val = q.val then y else 0 := by
  rw [eye_bit]
  split_ifs
  · show (((1#1 : BitVec 1).toNat : ℝ) : EReal) * y = y
    simp
  · show (((0#1 : BitVec 1).toNat : ℝ) : EReal) * y = 0
    simp

end Cert.MixSIdeal.Array
-- ==== Proof.MixSGates.lean ====
/- The merge kernel's weight blocks as functions of the argument arrays. -/
module

public import proofs.«01_k».proof.Proof.MixSEye
public import Idealize.ShloMosaic.Lib.StableHlo.ReadAt

@[expose] public section

set_option maxRecDepth 16384

noncomputable section

namespace Cert.MixSIdeal.Array

open Cert.MixSIdeal Cert.MixSIdeal.Gen Idealize.ShloMosaic Idealize.ShloMosaic.TcCoe Idealize.SL.Sem
open Idealize.ShloMosaic.Pointwise Cert.Layer Cert.Scalars Cert.Merge

variable (m : (ℓ : Loc nD τ sig) → Buf (Elt Ideal) ℓ)

/-- The gates' packed weight, as the host forms it: two block-diagonal halves. -/
theorem gates (c : Dev nD) (g : Fin 4) (k : Fin 256) (j : Fin 512) : V m c main_v47 (ix3 g k j)
    = (if h : j.val < 256 then
      FloatOps.uitofp (F := Ideal) FTy.f32
          (IntOp.cmpi CmpIPredicate.eq (IntOp.addi (BitVec.ofNat 32 (k.val / 64)) 0#32) (BitVec.ofNat 32 (j.val / 64))) *
        (Ideal.ofBits FTy.f32 0x3F000000#32 *
          m ((c : Thread nD τ).loc main_arg10) (ix4 0 ⟨g.val * 4 + k.val / 64, by omega⟩ ⟨k.val % 64, by omega⟩ ⟨j.val % 64, by omega⟩))
    else
      FloatOps.uitofp (F := Ideal) FTy.f32
          (IntOp.cmpi CmpIPredicate.eq (IntOp.addi (BitVec.ofNat 32 (k.val / 64)) 0#32)
            (BitVec.ofNat 32 ((j.val - 256) / 64))) *
        (Ideal.ofBits FTy.f32 0x3F000000#32 *
          m ((c : Thread nD τ).loc main_arg12) (ix4 0 ⟨g.val * 4 + k.val / 64, by omega⟩ ⟨k.val % 64, by omega⟩ ⟨(j.val - 256) % 64, by omega⟩)) : EReal) := by
  unfold V
  simp only [hostOps0, hostOps0_1, hostOps0_2, List.flatten_cons, List.flatten_nil, List.append_nil, List.cons_append,
    List.nil_append]
  entry_read
  try simp -implicitDefEqProofs only [StableHlo.TRef.toBuf, StableHlo.TRef.ofBuf, cast_cast, cast_eq]
  clean_types
  pointwise

end Cert.MixSIdeal.Array
-- ==== Proof.MixSGateRows.lean ====
/- The merge kernel's weight blocks as functions of the argument arrays. -/
module

public import proofs.«01_k».proof.Proof.MixSGates
public import Idealize.ShloMosaic.Lib.StableHlo.ReadAt

@[expose] public section

set_option maxRecDepth 16384

noncomputable section

namespace Cert.MixSIdeal.Array

open Cert.MixSIdeal Cert.MixSIdeal.Gen Idealize.ShloMosaic Idealize.ShloMosaic.TcCoe Idealize.SL.Sem
open Idealize.ShloMosaic.Pointwise Cert.Layer Cert.Scalars Cert.Merge

variable (m : (ℓ : Loc nD τ sig) → Buf (Elt Ideal) ℓ)

/-- The gates' weight window is the whole weight. -/
theorem idx12 : ∀ t : Fin grid0.N, win0_12.index t = ![0, 0, 0] := by
  decide +kernel

theorem gates_r (c : Dev nD) (g : Fin 4) (k j : Fin 256) : V m c main_v47 (ix3 (n2 := 512) g k ⟨j.val, by omega⟩)
    = if k.val / 64 = j.val / 64 then half * m ((c : Thread nD τ).loc main_arg10) (ix4 0 ⟨g.val * 4 + k.val / 64, by omega⟩ ⟨k.val % 64, by omega⟩
        ⟨j.val % 64, by omega⟩) else (0 : EReal) := by
  rw [gates, half_eq]
  rw [dif_pos j.isLt]
  exact eye_mul ⟨k.val / 64, by omega⟩ ⟨j.val / 64, by omega⟩ _

set_option maxHeartbeats 2000000 in
theorem gates_r_at (c : Dev nD) (t : Fin cfg0.N) (g : Fin 4) (k j : Fin 256) :
    (iblk m c 12 t : Vec Ideal S4x256x512 .bf16) (ix3 g k ⟨j.val, by omega⟩)
    = if k.val / 64 = j.val / 64 then half * m ((c : Thread nD τ).loc main_arg10) (ix4 0 ⟨g.val * 4 + k.val / 64, by omega⟩ ⟨k.val % 64, by omega⟩
        ⟨j.val % 64, by omega⟩) else (0 : EReal) := by
  refine (congrArg (V m c main_v47) (?_ : _ = ix3 (n2 := 512) g k ⟨j.val, by omega⟩)).trans (gates_r m c _ _ _)
  blk_ext [idx12 t]

theorem gates_x (c : Dev nD) (g : Fin 4) (k j : Fin 256) : V m c main_v47 (ix3 (n2 := 512) g k ⟨256 + j.val, by omega⟩)
    = if k.val / 64 = j.val / 64 then half * m ((c : Thread nD τ).loc main_arg12) (ix4 0 ⟨g.val * 4 + k.val / 64, by omega⟩ ⟨k.val % 64, by omega⟩
        ⟨j.val % 64, by omega⟩) else (0 : EReal) := by
  rw [gates, half_eq]
  rw [dif_neg (by simp)]
  simp only [Nat.add_sub_cancel_left]
  exact eye_mul ⟨k.val / 64, by omega⟩ ⟨j.val / 64, by omega⟩ _

set_option maxHeartbeats 2000000 in
theorem gates_x_at (c : Dev nD) (t : Fin cfg0.N) (g : Fin 4) (k j : Fin 256) :
    (iblk m c 12 t : Vec Ideal S4x256x512 .bf16) (ix3 g k ⟨256 + j.val, by omega⟩)
    = if k.val / 64 = j.val / 64 then half * m ((c : Thread nD τ).loc main_arg12) (ix4 0 ⟨g.val * 4 + k.val / 64, by omega⟩ ⟨k.val % 64, by omega⟩
        ⟨j.val % 64, by omega⟩) else (0 : EReal) := by
  refine (congrArg (V m c main_v47) (?_ : _ = ix3 (n2 := 512) g k ⟨256 + j.val, by omega⟩)).trans (gates_x m c _ _ _)
  blk_ext [idx12 t]

end Cert.MixSIdeal.Array
-- ==== Proof.MixSFinal.lean ====
/- The merge kernel's two result arrays as functions of the argument arrays. -/
module

public import proofs.«01_k».proof.Proof.MixSWeights
public import proofs.«01_k».proof.Proof.MixSTaps
public import proofs.«01_k».proof.Proof.MixSGateRows

@[expose] public section

set_option maxRecDepth 16384

noncomputable section

namespace Cert.MixSIdeal.Final

open Cert.MixSIdeal Cert.MixSIdeal.Gen Idealize.ShloMosaic Idealize.ShloMosaic.TcCoe Idealize.SL.Sem
open Idealize.ShloMosaic.Pointwise Cert.Layer Cert.Scalars Cert.Merge Cert.MixSIdeal.Array

variable (m : (ℓ : Loc nD τ sig) → Buf (Elt Ideal) ℓ)

/-- The convolution of sample row `b`. -/
def conv (c : Dev nD) (b : Fin 32) : Fin 1024 → EReal :=
  convolved (fun k l => m ((c : Thread nD τ).loc main_arg8) (ix3 0 k l)) (fun l => m ((c : Thread nD τ).loc main_arg9) (ix2 0 l))
    (fun l => m ((c : Thread nD τ).loc main_arg1) (ix4 0 b 0 l)) (fun l => m ((c : Thread nD τ).loc main_arg1) (ix4 0 b 1 l))
    (fun l => m ((c : Thread nD τ).loc main_arg1) (ix4 0 b 2 l)) (fun l => m ((c : Thread nD τ).loc main_arg0) (ix2 b l))

/-- The state of row `b` one step on. -/
def state (c : Dev nD) (b : Fin 32) : Fin 1024 → EReal :=
  stateRow (conv m c b) (fun k => m ((c : Thread nD τ).loc main_arg2) (ix3 0 b k))
    (fun k => m ((c : Thread nD τ).loc main_arg14) (ix2 0 k)) (fun k => m ((c : Thread nD τ).loc main_arg11) (ix2 0 k))
    (fun k => m ((c : Thread nD τ).loc main_arg13) (ix2 0 k)) (fun g d j => m ((c : Thread nD τ).loc main_arg10) (ix4 0 g d j))
    (fun g d j => m ((c : Thread nD τ).loc main_arg12) (ix4 0 g d j))

/-- The merged and normalised row `b`. -/
def result (c : Dev nD) (b : Fin 32) : Fin 1024 → EReal :=
  resultRow (state m c b) (fun k => m ((c : Thread nD τ).loc main_arg3) (ix2 b k))
    (fun k => m ((c : Thread nD τ).loc main_arg4) (ix2 b k)) (fun k => m ((c : Thread nD τ).loc main_arg5) (ix2 b k))
    (fun k => m ((c : Thread nD τ).loc main_arg7) (ix2 b k)) (fun k => m ((c : Thread nD τ).loc main_arg6) (ix2 b k))
    (fun k j => m ((c : Thread nD τ).loc main_arg15) (ix3 0 k j)) (fun k j => m ((c : Thread nD τ).loc main_arg16) (ix3 0 k j))
    (fun k j => m ((c : Thread nD τ).loc main_arg17) (ix3 0 k j)) (fun k => m ((c : Thread nD τ).loc main_arg18) (ix2 0 k))
    (fun k => m ((c : Thread nD τ).loc main_arg19) (ix2 0 k))

def G21 (c : Dev nD) : Buf (Elt Ideal) ((c : Thread nD τ).loc main_v72_0) := fun i : S32x1024.Idx => result m c (i 0) (i 1)
def G22 (c : Dev nD) : Buf (Elt Ideal) ((c : Thread nD τ).loc main_v72_1) := fun i : S32x1024.Idx => state m c (i 0) (i 1)

theorem point22 (c : Dev nD) (t : Fin cfg0.N) (b : Fin 32) (l : Fin 1024) :
    out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (ix2 b l) = state m c b l := by
  rw [Out.state_at]
  unfold Out.xc
  simp only [xr_at, tap0_at, tap1_at, tap2_at, state_at, taps_at, convb_at, gates_r_at, gates_x_at, bias_a_at, bias_x_at,
    lam_at]
  rw [gate_eq _ (fun g d j => m ((c : Thread nD τ).loc main_arg10) (ix4 0 g d j)) (fun k => m ((c : Thread nD τ).loc main_arg11) (ix2 0 k)),
    gate_eq _ (fun g d j => m ((c : Thread nD τ).loc main_arg12) (ix4 0 g d j)) (fun k => m ((c : Thread nD τ).loc main_arg13) (ix2 0 k)),
    stepped_eq]
  rfl

theorem point21 (c : Dev nD) (t : Fin cfg0.N) (b : Fin 32) (l : Fin 1024) :
    out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (ix2 b l) = result m c b l := by
  rw [Out.row_at]
  unfold Block.row
  simp only [point22, gr_at, ga_at, gb_at, attn_at, resid_at, w_attn_at, w_rnn_at, w_out_at, scale_at, shift_at, gelu_eq]
  unfold result resultRow
  refine congrArg (fun y => rowNorm y _ _ l) (funext fun k => ?_)
  refine congrArg (fun y => mixRow _ y _ k) (funext fun j => ?_)
  rw [merged_eq]
  refine congrArg (fun y => merged _ y _ _ _ _ j) (funext fun i => ?_)
  exact congrArg (state m c b i * ·) (gelu_eq _)

theorem final21 (c : Dev nD) : (dats m 0 c).arrAt 21 cfg0.N = G21 m c := by
  refine (dats m 0 c).arrAt_eq_of_covers 21 _ (by decide +kernel) fun t hf y => ?_
  blk_simp
  rw [after0_21]
  refine (congrArg _ (eq_ix2 (n0 := 32) (n1 := 1024) y)).trans ((point21 m c t (y 0) (y 1)).trans
    (?_ : G21 m c (ix2 (y 0) (y 1)) = _))
  refine congrArg _ ?_
  blk_ext [idx t]

theorem final22 (c : Dev nD) : (dats m 0 c).arrAt 22 cfg0.N = G22 m c := by
  refine (dats m 0 c).arrAt_eq_of_covers 22 _ (by decide +kernel) fun t hf y => ?_
  blk_simp
  rw [after0_22]
  refine (congrArg _ (eq_ix2 (n0 := 32) (n1 := 1024) y)).trans ((point22 m c t (y 0) (y 1)).trans
    (?_ : G22 m c (ix2 (y 0) (y 1)) = _))
  refine congrArg _ ?_
  blk_ext [idx t]

end Cert.MixSIdeal.Final
-- ==== Proof.MixSRead.lean ====
/- The reference of the sample rows' merge at an index. -/
module

public import proofs.«01_k».proof.Proof.Gen.MixSRefIdeal.Run
public import proofs.«01_k».proof.Proof.Gen.MixSRefIdeal.Read
public import proofs.«01_k».proof.Proof.Merge
public import Idealize.ShloMosaic.Lib.Pointwise

@[expose] public section

set_option maxRecDepth 16384

noncomputable section

namespace Cert.MixSRefIdeal.Rows

open Cert.MixSRefIdeal Cert.MixSRefIdeal.Gen Cert.MixSRefIdeal.Read Idealize.ShloMosaic Idealize.SL.Sem
open Idealize.ShloMosaic.Pointwise Cert.Layer Cert.Scalars Cert.Merge

variable (x0 : (⟨S32x1024, .f32⟩ : BufTy).Contents (Elt Ideal)) (x1 : (⟨S1x32x3x1024, .f32⟩ : BufTy).Contents (Elt Ideal))
  (x2 : (⟨S1x32x1024, .f32⟩ : BufTy).Contents (Elt Ideal)) (x3 x4 x5 : (⟨S32x1024, .f32⟩ : BufTy).Contents (Elt Ideal))
  (x6 : (⟨S32x512, .f32⟩ : BufTy).Contents (Elt Ideal)) (x7 : (⟨S32x1024, .f32⟩ : BufTy).Contents (Elt Ideal))
  (x8 : (⟨S1x4x1024, .f32⟩ : BufTy).Contents (Elt Ideal)) (x9 : (⟨S1x1024, .f32⟩ : BufTy).Contents (Elt Ideal))
  (x10 : (⟨S1x16x64x64, .f32⟩ : BufTy).Contents (Elt Ideal)) (x11 : (⟨S1x1024, .f32⟩ : BufTy).Contents (Elt Ideal))
  (x12 : (⟨S1x16x64x64, .f32⟩ : BufTy).Contents (Elt Ideal)) (x13 x14 : (⟨S1x1024, .f32⟩ : BufTy).Contents (Elt Ideal))
  (x15 : (⟨S1x512x1024, .f32⟩ : BufTy).Contents (Elt Ideal)) (x16 x17 : (⟨S1x1024x1024, .f32⟩ : BufTy).Contents (Elt Ideal))
  (x18 x19 : (⟨S1x1024, .f32⟩ : BufTy).Contents (Elt Ideal))

/-- The convolution of row `b`. -/
abbrev conv (b : Fin 32) : Fin 1024 → EReal :=
  convolved (fun k l => x8 (ix3 0 k l)) (fun l => x9 (ix2 0 l)) (fun l => x1 (ix4 0 b 0 l)) (fun l => x1 (ix4 0 b 1 l))
    (fun l => x1 (ix4 0 b 2 l)) (fun l => x0 (ix2 b l))

/-- The convolved row of the reference. -/
theorem conv_at (b : Fin 32) (l : Fin 1024) : val_main_v35 x0 x1 x8 x9 (ix3 b 0 l) = conv x0 x1 x8 x9 b l := by
  unfold conv convolved
  pointwise [val_main_v35, val_main_v34, val_main_v33, val_main_v32, val_main_v31, val_main_v30, val_main_v29,
    val_main_v28, val_main_v27, val_main_v26, val_main_v25, val_main_v24, val_main_v23, val_main_v22, val_main_v21,
    val_main_v20, val_main_v19, val_main_v18, val_main_v17, val_main_v16, val_main_v15, val_main_v14, val_main_v13,
    val_main_v12, val_main_v11, val_main_v10, val_main_v9, val_main_v8, val_main_v7, val_main_v6, val_main_v5,
    val_main_v4, val_main_v3, val_main_v2, val_main_v1, val_main_v0, val_main_cst]
  simp only [mul_comm (x8 _), add_assoc]

/-- The recurrence gate of the reference. -/
theorem gate_r (b : Fin 32) (l : Fin 1024) : val_main_v53 x0 x1 x8 x9 x10 x11 (ix3 b 0 l)
    = sigmoid (gateIn (fun k => val_main_v35 x0 x1 x8 x9 (ix3 b 0 k)) (fun g d j => x10 (ix4 0 g d j))
        (fun k => x11 (ix2 0 k)) l) := by
  unfold sigmoid gateIn
  simp only [← one_eq]
  pointwise [val_main_v53, val_main_v52, val_main_v51, val_main_v50, val_main_v49, val_main_v48, val_main_v47,
    val_main_v46, val_main_v45, val_main_v44, val_main_v43, val_main_v42, val_main_v41, val_main_v40, val_main_v39,
    val_main_v38, val_main_v37, val_main_v36, val_main_cst_0, val_main_cst_1]

/-- The input gate of the reference. -/
theorem gate_i (b : Fin 32) (l : Fin 1024) : val_main_v65 x0 x1 x8 x9 x12 x13 (ix3 b 0 l)
    = sigmoid (gateIn (fun k => val_main_v35 x0 x1 x8 x9 (ix3 b 0 k)) (fun g d j => x12 (ix4 0 g d j))
        (fun k => x13 (ix2 0 k)) l) := by
  unfold sigmoid gateIn
  simp only [← one_eq]
  pointwise [val_main_v65, val_main_v64, val_main_v63, val_main_v62, val_main_v61, val_main_v60, val_main_v59, val_main_v58, val_main_v57, val_main_v56, val_main_v55, val_main_v54, val_main_v41, val_main_v40, val_main_v39, val_main_v38, val_main_v37, val_main_v36, val_main_cst_2, val_main_cst_3]

/-- The logarithm of the reference's decay. -/
theorem decay_at (b : Fin 32) (l : Fin 1024) : val_main_v72 x0 x1 x8 x9 x10 x11 x14 (ix3 b 0 l)
    = ((-8 : ℝ) : EReal) * val_main_v53 x0 x1 x8 x9 x10 x11 (ix3 b 0 l) * softplus (-(x14 (ix2 0 l))) := by
  unfold softplus
  simp only [← minusEight_eq]
  pointwise [val_main_v72, val_main_v71, val_main_v70, val_main_v69, val_main_v68, val_main_v67, val_main_v66, val_main_cst_4,
    val_main_call0_cst, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_v40]
  rw [if_neg (by simp)]
  rfl

/-- The state one step on. -/
theorem state_at (b : Fin 32) (l : Fin 1024) : val_main_v85 x0 x1 x2 x8 x9 x10 x11 x12 x13 x14 (ix2 b l)
    = Ideal.exp (val_main_v72 x0 x1 x8 x9 x10 x11 x14 (ix3 b 0 l)) * x2 (ix3 0 b l)
      + Ideal.sqrt (-(Ideal.expm1 (((2 : ℝ) : EReal) * val_main_v72 x0 x1 x8 x9 x10 x11 x14 (ix3 b 0 l))))
        * val_main_v65 x0 x1 x8 x9 x12 x13 (ix3 b 0 l) * val_main_v35 x0 x1 x8 x9 (ix3 b 0 l) := by
  simp only [← two_eq, Ideal.expm1]
  pointwise [val_main_v85, val_main_v84, val_main_v83, val_main_v82, val_main_v81, val_main_v80, val_main_v79, val_main_v78, val_main_v77, val_main_v76, val_main_v75, val_main_v74, val_main_v73, val_main_cst_5, val_main_cst_6]

/-- The gelu. -/
theorem gelu_at (b : Fin 32) (l : Fin 1024) : val_main_v103 x3 (ix2 b l) = gelu (x3 (ix2 b l)) := by
  unfold gelu
  simp only [← half_eq, ← one_eq]
  pointwise [val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_cst_6, val_main_cst_7, val_main_cst_8, val_main_cst_9]

/-- The merged row. -/
theorem merged_at (b : Fin 32) (l : Fin 1024) :
    val_main_v121 x0 x1 x2 x3 x4 x5 x6 x8 x9 x10 x11 x12 x13 x14 x15 x16 (ix2 b l)
    = merged (fun k => x6 (ix2 b k)) (fun k => val_main_v85 x0 x1 x2 x8 x9 x10 x11 x12 x13 x14 (ix2 b k)
        * val_main_v103 x3 (ix2 b k)) (fun k j => x15 (ix3 0 k j)) (fun k j => x16 (ix3 0 k j))
        (fun k => x4 (ix2 b k)) (fun k => x5 (ix2 b k)) l := by
  unfold merged sigmoid
  simp only [← one_eq]
  pointwise [val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_cst_10, val_main_cst_11,
    val_main_cst_12, val_main_cst_13, val_main_v90, val_main_v89, val_main_v88, val_main_v87, val_main_v86]

/-- The row before the layer norm. -/
theorem mix_at (b : Fin 32) (l : Fin 1024) :
    val_main_v125 x0 x1 x2 x3 x4 x5 x6 x7 x8 x9 x10 x11 x12 x13 x14 x15 x16 x17 (ix2 b l)
    = mixRow (fun k => x7 (ix2 b k)) (fun k => val_main_v121 x0 x1 x2 x3 x4 x5 x6 x8 x9 x10 x11 x12 x13 x14 x15 x16 (ix2 b k))
        (fun k j => x17 (ix3 0 k j)) l := by
  unfold mixRow
  pointwise [val_main_v125, val_main_v124, val_main_v123, val_main_v122, val_main_cst_14, val_main_v90, val_main_v89, val_main_v88, val_main_v87, val_main_v86]

/-- The reference's result row. -/
theorem out_at (b : Fin 32) (l : Fin 1024) :
    val_main_v149 x0 x1 x2 x3 x4 x5 x6 x7 x8 x9 x10 x11 x12 x13 x14 x15 x16 x17 x18 x19 (ix2 b l)
    = rowNorm (fun k => val_main_v125 x0 x1 x2 x3 x4 x5 x6 x7 x8 x9 x10 x11 x12 x13 x14 x15 x16 x17 (ix2 b k))
        (fun k => x18 (ix2 0 k)) (fun k => x19 (ix2 0 k)) l := by
  unfold rowNorm
  pointwise [val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_cst_15, val_main_cst_16,
    val_main_cst_17, val_main_cst_18, val_main_cst_19, val_main_v90, val_main_v89, val_main_v88, val_main_v87, val_main_v86]

/-- The state the reference leaves. -/
theorem h_at (b : Fin 32) (l : Fin 1024) : val_main_v85 x0 x1 x2 x8 x9 x10 x11 x12 x13 x14 (ix2 b l)
    = stateRow (conv x0 x1 x8 x9 b) (fun k => x2 (ix3 0 b k)) (fun k => x14 (ix2 0 k)) (fun k => x11 (ix2 0 k))
        (fun k => x13 (ix2 0 k)) (fun g d j => x10 (ix4 0 g d j)) (fun g d j => x12 (ix4 0 g d j)) l := by
  unfold stateRow stepped logDecay
  rw [state_at, decay_at, gate_r, gate_i]
  simp only [conv_at]

/-- The row the reference leaves. -/
theorem y_at (b : Fin 32) (l : Fin 1024) :
    val_main_v149 x0 x1 x2 x3 x4 x5 x6 x7 x8 x9 x10 x11 x12 x13 x14 x15 x16 x17 x18 x19 (ix2 b l)
    = resultRow (fun k => val_main_v85 x0 x1 x2 x8 x9 x10 x11 x12 x13 x14 (ix2 b k)) (fun k => x3 (ix2 b k))
        (fun k => x4 (ix2 b k)) (fun k => x5 (ix2 b k)) (fun k => x7 (ix2 b k)) (fun k => x6 (ix2 b k))
        (fun k j => x15 (ix3 0 k j)) (fun k j => x16 (ix3 0 k j)) (fun k j => x17 (ix3 0 k j))
        (fun k => x18 (ix2 0 k)) (fun k => x19 (ix2 0 k)) l := by
  unfold resultRow
  rw [out_at]
  refine congrArg (fun y => rowNorm y _ _ l) (funext fun k => ?_)
  rw [mix_at]
  refine congrArg (fun y => mixRow _ y _ k) (funext fun j => ?_)
  rw [merged_at]
  simp only [gelu_at]

end Cert.MixSRefIdeal.Rows
-- ==== Proof.MixSClaim.lean ====
/- The claims about the merge for the sample rows: the programs leave the arguments alone, the one rewritten constant
   is a named one, and on the extended reals both result arrays of the kernel are the reference's. -/
module

public import proofs.«01_k».proof.Defs
public import proofs.«01_k».proof.Proof.MixSFinal
public import proofs.«01_k».proof.Proof.MixSRead
public import proofs.«01_k».proof.Proof.MixSFrame

@[expose] public section

set_option maxRecDepth 16384

noncomputable section

namespace Cert.Proof.MixS

open Idealize.ShloMosaic Idealize.SL.Sem Idealize.ShloMosaic.Pointwise Cert.MixSRefIdeal.Read Cert.MixSRefIdeal.Rows

variable (m : (ℓ : Loc Cert.MixSIdeal.nD Cert.MixSIdeal.τ Cert.MixSIdeal.sig) → Buf (Elt Ideal) ℓ)

/-- The reference's state is the kernel's, entry by entry. -/
theorem state_eq (c : Dev Cert.MixSIdeal.nD) (b : Fin 32) (l : Fin 1024) :
    val_main_v85 (F := Ideal)
        (m ((c.tc : Thread Cert.MixSIdeal.nD Cert.MixSIdeal.τ).loc Cert.MixSIdeal.main_arg0))
        (m ((c.tc : Thread Cert.MixSIdeal.nD Cert.MixSIdeal.τ).loc Cert.MixSIdeal.main_arg1))
        (m ((c.tc : Thread Cert.MixSIdeal.nD Cert.MixSIdeal.τ).loc Cert.MixSIdeal.main_arg2))
        (m ((c.tc : Thread Cert.MixSIdeal.nD Cert.MixSIdeal.τ).loc Cert.MixSIdeal.main_arg8))
        (m ((c.tc : Thread Cert.MixSIdeal.nD Cert.MixSIdeal.τ).loc Cert.MixSIdeal.main_arg9))
        (m ((c.tc : Thread Cert.MixSIdeal.nD Cert.MixSIdeal.τ).loc Cert.MixSIdeal.main_arg10))
        (m ((c.tc : Thread Cert.MixSIdeal.nD Cert.MixSIdeal.τ).loc Cert.MixSIdeal.main_arg11))
        (m ((c.tc : Thread Cert.MixSIdeal.nD Cert.MixSIdeal.τ).loc Cert.MixSIdeal.main_arg12))
        (m ((c.tc : Thread Cert.MixSIdeal.nD Cert.MixSIdeal.τ).loc Cert.MixSIdeal.main_arg13))
        (m ((c.tc : Thread Cert.MixSIdeal.nD Cert.MixSIdeal.τ).loc Cert.MixSIdeal.main_arg14)) (ix2 b l)
      = Cert.MixSIdeal.Final.state m c b l :=
  h_at _ _ _ _ _ _ _ _ _ _ b l

/-- The reference's state array is the one the kernel leaves. -/
theorem same22 (c : Dev Cert.MixSIdeal.nD) :
    val_main_v85 (F := Ideal)
        (m ((c.tc : Thread Cert.MixSIdeal.nD Cert.MixSIdeal.τ).loc Cert.MixSIdeal.main_arg0))
        (m ((c.tc : Thread Cert.MixSIdeal.nD Cert.MixSIdeal.τ).loc Cert.MixSIdeal.main_arg1))
        (m ((c.tc : Thread Cert.MixSIdeal.nD Cert.MixSIdeal.τ).loc Cert.MixSIdeal.main_arg2))
        (m ((c.tc : Thread Cert.MixSIdeal.nD Cert.MixSIdeal.τ).loc Cert.MixSIdeal.main_arg8))
        (m ((c.tc : Thread Cert.MixSIdeal.nD Cert.MixSIdeal.τ).loc Cert.MixSIdeal.main_arg9))
        (m ((c.tc : Thread Cert.MixSIdeal.nD Cert.MixSIdeal.τ).loc Cert.MixSIdeal.main_arg10))
        (m ((c.tc : Thread Cert.MixSIdeal.nD Cert.MixSIdeal.τ).loc Cert.MixSIdeal.main_arg11))
        (m ((c.tc : Thread Cert.MixSIdeal.nD Cert.MixSIdeal.τ).loc Cert.MixSIdeal.main_arg12))
        (m ((c.tc : Thread Cert.MixSIdeal.nD Cert.MixSIdeal.τ).loc Cert.MixSIdeal.main_arg13))
        (m ((c.tc : Thread Cert.MixSIdeal.nD Cert.MixSIdeal.τ).loc Cert.MixSIdeal.main_arg14))
      = Cert.MixSIdeal.Final.G22 m c :=
  funext fun i => by
    rw [eq_ix2 (n0 := 32) (n1 := 1024) i]
    exact state_eq m c _ _

/-- The reference's array of merged rows is the one the kernel leaves. -/
theorem same21 (c : Dev Cert.MixSIdeal.nD) :
    val_main_v149 (F := Ideal)
        (m ((c.tc : Thread Cert.MixSIdeal.nD Cert.MixSIdeal.τ).loc Cert.MixSIdeal.main_arg0))
        (m ((c.tc : Thread Cert.MixSIdeal.nD Cert.MixSIdeal.τ).loc Cert.MixSIdeal.main_arg1))
        (m ((c.tc : Thread Cert.MixSIdeal.nD Cert.MixSIdeal.τ).loc Cert.MixSIdeal.main_arg2))
        (m ((c.tc : Thread Cert.MixSIdeal.nD Cert.MixSIdeal.τ).loc Cert.MixSIdeal.main_arg3))
        (m ((c.tc : Thread Cert.MixSIdeal.nD Cert.MixSIdeal.τ).loc Cert.MixSIdeal.main_arg4))
        (m ((c.tc : Thread Cert.MixSIdeal.nD Cert.MixSIdeal.τ).loc Cert.MixSIdeal.main_arg5))
        (m ((c.tc : Thread Cert.MixSIdeal.nD Cert.MixSIdeal.τ).loc Cert.MixSIdeal.main_arg6))
        (m ((c.tc : Thread Cert.MixSIdeal.nD Cert.MixSIdeal.τ).loc Cert.MixSIdeal.main_arg7))
        (m ((c.tc : Thread Cert.MixSIdeal.nD Cert.MixSIdeal.τ).loc Cert.MixSIdeal.main_arg8))
        (m ((c.tc : Thread Cert.MixSIdeal.nD Cert.MixSIdeal.τ).loc Cert.MixSIdeal.main_arg9))
        (m ((c.tc : Thread Cert.MixSIdeal.nD Cert.MixSIdeal.τ).loc Cert.MixSIdeal.main_arg10))
        (m ((c.tc : Thread Cert.MixSIdeal.nD Cert.MixSIdeal.τ).loc Cert.MixSIdeal.main_arg11))
        (m ((c.tc : Thread Cert.MixSIdeal.nD Cert.MixSIdeal.τ).loc Cert.MixSIdeal.main_arg12))
        (m ((c.tc : Thread Cert.MixSIdeal.nD Cert.MixSIdeal.τ).loc Cert.MixSIdeal.main_arg13))
        (m ((c.tc : Thread Cert.MixSIdeal.nD Cert.MixSIdeal.τ).loc Cert.MixSIdeal.main_arg14))
        (m ((c.tc : Thread Cert.MixSIdeal.nD Cert.MixSIdeal.τ).loc Cert.MixSIdeal.main_arg15))
        (m ((c.tc : Thread Cert.MixSIdeal.nD Cert.MixSIdeal.τ).loc Cert.MixSIdeal.main_arg16))
        (m ((c.tc : Thread Cert.MixSIdeal.nD Cert.MixSIdeal.τ).loc Cert.MixSIdeal.main_arg17))
        (m ((c.tc : Thread Cert.MixSIdeal.nD Cert.MixSIdeal.τ).loc Cert.MixSIdeal.main_arg18))
        (m ((c.tc : Thread Cert.MixSIdeal.nD Cert.MixSIdeal.τ).loc Cert.MixSIdeal.main_arg19))
      = Cert.MixSIdeal.Final.G21 m c :=
  funext fun i => by
    rw [eq_ix2 (n0 := 32) (n1 := 1024) i]
    refine (y_at _ _ _ _ _ _ _ _ _ _ _ _ _ _ _ _ _ _ _ _ (i 0) (i 1)).trans ?_
    exact congrArg (fun hs => Cert.Merge.resultRow hs _ _ _ _ _ _ _ _ _ _ (i 1)) (funext fun k => state_eq m c (i 0) k)

set_option maxHeartbeats 2000000 in
theorem algebraic : Cert.algebraic_MixSIdeal_MixSRefIdeal := by
  intro m g m' g' _ hagree
  refine ⟨Cert.MixSIdeal.Final.G21 m, Cert.MixSIdeal.Final.G22 m, ?_, ?_⟩
  · refine θ_run_mono (θ_run_and (Cert.MixSIdeal.Gen.run_main m g) (Cert.MixSIdeal.Gen.frame m g)) fun r hr c => ?_
    have a := (hr.1 c).1
    exact ⟨(a 21).trans (Cert.MixSIdeal.Final.final21 m c), (a 22).trans (Cert.MixSIdeal.Final.final22 m c), hr.2.1 c⟩
  · refine θ_run_mono (Cert.MixSRefIdeal.Value.run m' g') fun r hr c => ?_
    obtain ⟨hy, hh, e⟩ := hr c
    obtain ⟨a0, a1, a2, a3, a4, a5, a6, a7, a8, a9, a10, a11, a12, a13, a14, a15, a16, a17, a18, a19⟩ :=
      hagree c
    refine ⟨hy.trans ?_, hh.trans ?_, e⟩
    · refine (val_main_v149_eq _).trans ?_
      change val_main_v149 (F := Ideal)
        (m' ((c.tc : Thread Cert.MixSRefIdeal.nD Cert.MixSRefIdeal.τ).loc Cert.MixSRefIdeal.main_arg0))
        (m' ((c.tc : Thread Cert.MixSRefIdeal.nD Cert.MixSRefIdeal.τ).loc Cert.MixSRefIdeal.main_arg1))
        (m' ((c.tc : Thread Cert.MixSRefIdeal.nD Cert.MixSRefIdeal.τ).loc Cert.MixSRefIdeal.main_arg2))
        (m' ((c.tc : Thread Cert.MixSRefIdeal.nD Cert.MixSRefIdeal.τ).loc Cert.MixSRefIdeal.main_arg3))
        (m' ((c.tc : Thread Cert.MixSRefIdeal.nD Cert.MixSRefIdeal.τ).loc Cert.MixSRefIdeal.main_arg4))
        (m' ((c.tc : Thread Cert.MixSRefIdeal.nD Cert.MixSRefIdeal.τ).loc Cert.MixSRefIdeal.main_arg5))
        (m' ((c.tc : Thread Cert.MixSRefIdeal.nD Cert.MixSRefIdeal.τ).loc Cert.MixSRefIdeal.main_arg6))
        (m' ((c.tc : Thread Cert.MixSRefIdeal.nD Cert.MixSRefIdeal.τ).loc Cert.MixSRefIdeal.main_arg7))
        (m' ((c.tc : Thread Cert.MixSRefIdeal.nD Cert.MixSRefIdeal.τ).loc Cert.MixSRefIdeal.main_arg8))
        (m' ((c.tc : Thread Cert.MixSRefIdeal.nD Cert.MixSRefIdeal.τ).loc Cert.MixSRefIdeal.main_arg9))
        (m' ((c.tc : Thread Cert.MixSRefIdeal.nD Cert.MixSRefIdeal.τ).loc Cert.MixSRefIdeal.main_arg10))
        (m' ((c.tc : Thread Cert.MixSRefIdeal.nD Cert.MixSRefIdeal.τ).loc Cert.MixSRefIdeal.main_arg11))
        (m' ((c.tc : Thread Cert.MixSRefIdeal.nD Cert.MixSRefIdeal.τ).loc Cert.MixSRefIdeal.main_arg12))
        (m' ((c.tc : Thread Cert.MixSRefIdeal.nD Cert.MixSRefIdeal.τ).loc Cert.MixSRefIdeal.main_arg13))
        (m' ((c.tc : Thread Cert.MixSRefIdeal.nD Cert.MixSRefIdeal.τ).loc Cert.MixSRefIdeal.main_arg14))
        (m' ((c.tc : Thread Cert.MixSRefIdeal.nD Cert.MixSRefIdeal.τ).loc Cert.MixSRefIdeal.main_arg15))
        (m' ((c.tc : Thread Cert.MixSRefIdeal.nD Cert.MixSRefIdeal.τ).loc Cert.MixSRefIdeal.main_arg16))
        (m' ((c.tc : Thread Cert.MixSRefIdeal.nD Cert.MixSRefIdeal.τ).loc Cert.MixSRefIdeal.main_arg17))
        (m' ((c.tc : Thread Cert.MixSRefIdeal.nD Cert.MixSRefIdeal.τ).loc Cert.MixSRefIdeal.main_arg18))
        (m' ((c.tc : Thread Cert.MixSRefIdeal.nD Cert.MixSRefIdeal.τ).loc Cert.MixSRefIdeal.main_arg19)) = _
      rw [a0, a1, a2, a3, a4, a5, a6, a7, a8, a9, a10, a11, a12, a13, a14, a15, a16, a17, a18, a19]
      exact same21 m c
    · refine (val_main_v85_eq _).trans ?_
      change val_main_v85 (F := Ideal)
        (m' ((c.tc : Thread Cert.MixSRefIdeal.nD Cert.MixSRefIdeal.τ).loc Cert.MixSRefIdeal.main_arg0))
        (m' ((c.tc : Thread Cert.MixSRefIdeal.nD Cert.MixSRefIdeal.τ).loc Cert.MixSRefIdeal.main_arg1))
        (m' ((c.tc : Thread Cert.MixSRefIdeal.nD Cert.MixSRefIdeal.τ).loc Cert.MixSRefIdeal.main_arg2))
        (m' ((c.tc : Thread Cert.MixSRefIdeal.nD Cert.MixSRefIdeal.τ).loc Cert.MixSRefIdeal.main_arg8))
        (m' ((c.tc : Thread Cert.MixSRefIdeal.nD Cert.MixSRefIdeal.τ).loc Cert.MixSRefIdeal.main_arg9))
        (m' ((c.tc : Thread Cert.MixSRefIdeal.nD Cert.MixSRefIdeal.τ).loc Cert.MixSRefIdeal.main_arg10))
        (m' ((c.tc : Thread Cert.MixSRefIdeal.nD Cert.MixSRefIdeal.τ).loc Cert.MixSRefIdeal.main_arg11))
        (m' ((c.tc : Thread Cert.MixSRefIdeal.nD Cert.MixSRefIdeal.τ).loc Cert.MixSRefIdeal.main_arg12))
        (m' ((c.tc : Thread Cert.MixSRefIdeal.nD Cert.MixSRefIdeal.τ).loc Cert.MixSRefIdeal.main_arg13))
        (m' ((c.tc : Thread Cert.MixSRefIdeal.nD Cert.MixSRefIdeal.τ).loc Cert.MixSRefIdeal.main_arg14)) = _
      rw [a0, a1, a2, a8, a9, a10, a11, a12, a13, a14]
      exact same22 m c

theorem frame : Cert.quiescent_MixS := fun m ρ _ => Cert.MixS.Gen.frame m ρ

theorem frameIdeal : Cert.quiescent_MixSIdeal := fun m ρ _ => Cert.MixSIdeal.Gen.frame m ρ

theorem frameRef : Cert.quiescent_MixSRefIdeal := fun m g _ =>
  θ_run_mono (Cert.MixSRefIdeal.Value.run m g) fun r h => ⟨fun c => (h c).2.2, sem_eq_zero_of_no_sems (by decide) r.2⟩

theorem preserves : Cert.preserves_MixS_MixSIdeal :=
  IdealRules.named_const.statement Cert.MixSIdeal.κ "eight_root_cubic" .f32 0x3E922279#32 _ rfl

end Cert.Proof.MixS

end
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InIdeal.Value
public import proofs.«01_k».proof.Proof.Gen.InRefIdeal
public import proofs.«01_k».proof.Proof.Gen.InRefIdeal.Run
public import proofs.«01_k».proof.Proof.Gen.InRefIdeal.Read
public import proofs.«01_k».proof.Proof.Gen.MixS
public import proofs.«01_k».proof.Proof.Gen.MixS.Skeleton
public import proofs.«01_k».proof.Proof.Gen.MixS.Launch
public import proofs.«01_k».proof.Proof.Gen.MixS.Points
public import proofs.«01_k».proof.Proof.Gen.MixSIdeal
public import proofs.«01_k».proof.Proof.Gen.MixSIdeal.Skeleton
public import proofs.«01_k».proof.Proof.Gen.MixSIdeal.Launch
public import proofs.«01_k».proof.Proof.Gen.MixSIdeal.Points
public import proofs.«01_k».proof.Proof.Gen.MixSRefIdeal
public import proofs.«01_k».proof.Proof.Gen.MixSRefIdeal.Run
public import proofs.«01_k».proof.Proof.Gen.MixSRefIdeal.Read
public import proofs.«01_k».proof.Proof.FfnClaim
public import proofs.«01_k».proof.Proof.InClaim
public import proofs.«01_k».proof.Proof.MixSClaim
public import Idealize.ShloMosaic.Adequacy
public import Idealize.ShloMosaic.Init

@[expose] public section

noncomputable section

namespace Cert.Proof

open Idealize.ShloMosaic Idealize.SL.Sem

theorem claim : Cert.Claim := ⟨Cert.Ffn.Gen.facts, Cert.FfnIdeal.Gen.facts, Cert.FfnRefIdeal.Gen.facts,
  Cert.In.Gen.facts, Cert.InIdeal.Gen.facts, Cert.InRefIdeal.Gen.facts,
  Cert.MixS.Gen.facts, Cert.MixSIdeal.Gen.facts, Cert.MixSRefIdeal.Gen.facts,
  Ffn.frame, Ffn.frameIdeal, Ffn.frameRef, In.frame, In.frameIdeal, In.frameRef, MixS.frame, MixS.frameIdeal, MixS.frameRef,
  Ffn.preserves, Ffn.algebraic, In.preserves, In.algebraic, MixS.preserves, MixS.algebraic⟩

end Cert.Proof

end
